-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x512x18432 : Shape := ⟨3, ![16, 512, 18432]⟩
abbrev S18432x3584 : Shape := ⟨2, ![18432, 3584]⟩
abbrev S18432x112 : Shape := ⟨2, ![18432, 112]⟩
abbrev S8064 : Shape := ⟨1, ![8064]⟩
abbrev S1 : Shape := ⟨1, ![1]⟩
abbrev S1152x7 : Shape := ⟨2, ![1152, 7]⟩
abbrev S_ : Shape := ⟨0, ![]⟩
abbrev S1152x128 : Shape := ⟨2, ![1152, 128]⟩
abbrev S18432x128 : Shape := ⟨2, ![18432, 128]⟩
abbrev S4608x112 : Shape := ⟨2, ![4608, 112]⟩
abbrev S288x128 : Shape := ⟨2, ![288, 128]⟩
abbrev S4608x128 : Shape := ⟨2, ![4608, 128]⟩
abbrev S16x128 : Shape := ⟨2, ![16, 128]⟩
abbrev S32x112 : Shape := ⟨2, ![32, 112]⟩
abbrev S1x128 : Shape := ⟨2, ![1, 128]⟩
abbrev S16x128x1 : Shape := ⟨3, ![16, 128, 1]⟩
abbrev S16x112 : Shape := ⟨2, ![16, 112]⟩
abbrev S8192x18432 : Shape := ⟨2, ![8192, 18432]⟩
abbrev S8192x3584 : Shape := ⟨2, ![8192, 3584]⟩
abbrev S256x18432 : Shape := ⟨2, ![256, 18432]⟩
abbrev S18432x256 : Shape := ⟨2, ![18432, 256]⟩
abbrev S256x256 : Shape := ⟨2, ![256, 256]⟩
abbrev S18432x512 : Shape := ⟨2, ![18432, 512]⟩
abbrev S32x128 : Shape := ⟨2, ![32, 128]⟩
abbrev S256x512 : Shape := ⟨2, ![256, 512]⟩
abbrev S8192x7168 : Shape := ⟨2, ![8192, 7168]⟩
abbrev S16x512x7168 : Shape := ⟨3, ![16, 512, 7168]⟩

abbrev nBuf : Space → Nat
  | .hbm => 15
  | .vmem => 15
  | .smem => 1
  | _ => 0

abbrev bufTy : (tb : Table) → Fin (tcTables nBuf tb) → BufTy
  | .hbm, ⟨0, _⟩ => ⟨S16x512x18432, .bf16⟩
  | .hbm, ⟨1, _⟩ => ⟨S18432x3584, .i8⟩
  | .hbm, ⟨2, _⟩ => ⟨S18432x112, .i8⟩
  | .hbm, ⟨3, _⟩ => ⟨S8064, .f32⟩
  | .hbm, ⟨4, _⟩ => ⟨S1, .f32⟩
  | .hbm, ⟨5, _⟩ => ⟨S1152x7, .f32⟩
  | .hbm, ⟨6, _⟩ => ⟨S_, .i32⟩
  | .hbm, ⟨7, _⟩ => ⟨S_, .f32⟩
  | .hbm, ⟨8, _⟩ => ⟨S1152x128, .f32⟩
  | .hbm, ⟨9, _⟩ => ⟨S18432x128, .bf16⟩
  | .hbm, ⟨10, _⟩ => ⟨S8192x18432, .bf16⟩
  | .hbm, ⟨11, _⟩ => ⟨S8192x3584, .bf16⟩
  | .hbm, ⟨12, _⟩ => ⟨S8192x3584, .bf16⟩
  | .hbm, ⟨13, _⟩ => ⟨S8192x7168, .bf16⟩
  | .hbm, ⟨14, _⟩ => ⟨S16x512x7168, .bf16⟩
  | .local _ .vmem, ⟨0, _⟩ => ⟨S4608x112, .i8⟩
  | .local _ .vmem, ⟨1, _⟩ => ⟨S4608x112, .i8⟩
  | .local _ .vmem, ⟨2, _⟩ => ⟨S288x128, .f32⟩
  | .local _ .vmem, ⟨3, _⟩ => ⟨S288x128, .f32⟩
  | .local _ .vmem, ⟨4, _⟩ => ⟨S4608x128, .bf16⟩
  | .local _ .vmem, ⟨5, _⟩ => ⟨S4608x128, .bf16⟩
  | .local _ .vmem, ⟨6, _⟩ => ⟨S256x18432, .bf16⟩
  | .local _ .vmem, ⟨7, _⟩ => ⟨S256x18432, .bf16⟩
  | .local _ .vmem, ⟨8, _⟩ => ⟨S18432x256, .i8⟩
  | .local _ .vmem, ⟨9, _⟩ => ⟨S18432x128, .bf16⟩
  | .local _ .vmem, ⟨10, _⟩ => ⟨S256x256, .bf16⟩
  | .local _ .vmem, ⟨11, _⟩ => ⟨S256x256, .bf16⟩
  | .local _ .vmem, ⟨12, _⟩ => ⟨S256x256, .bf16⟩
  | .local _ .vmem, ⟨13, _⟩ => ⟨S256x256, .bf16⟩
  | .local _ .vmem, ⟨14, _⟩ => ⟨S18432x512, .bf16⟩
  | .local _ .smem, ⟨0, _⟩ => ⟨S1, .f32⟩
  | _, _ => ⟨S16x512x18432, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v5 : Ref sig .tc := ⟨.hbm, 13, rfl⟩
abbrev main_v6 : Ref sig .tc := ⟨.hbm, 14, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_scratch0 : Ref sig .tc := ⟨.vmem, 14, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c144_i32 : BitVec 32 := 144#32
  let v10 : BitVec 32 := Scalar.addi c0_i32 c144_i32
  let c1_i32 : BitVec 32 := 1#32
  ⟨c0_i32, v10, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c2_i32 : BitVec 32 := 2#32
  let v11 : BitVec 32 := Scalar.muli arg5 c2_i32
  let c16_i32 : BitVec 32 := 16#32
  let v12 : BitVec 32 := Scalar.muli v11 c16_i32
  v12
def k0_off1 (k0_t1 : Fin k0_t1_loop.trips) : Fin 2 → Nat :=
  let c0_i32 : BitVec 32 := 0#32
  let c1_i32 : BitVec 32 := 1#32
  let arg5 : BitVec 32 := Scf.iv c0_i32 c1_i32 k0_t1
  let c2_i32 : BitVec 32 := 2#32
  let v11 : BitVec 32 := Scalar.muli arg5 c2_i32
  let c16_i32 : BitVec 32 := 16#32
  let v12 : BitVec 32 := Scalar.muli v11 c16_i32
  let v13 : BitVec 32 := v12
  let v14 : Index := Scalar.indexCast v13
  let c0_1 : Index := 0#32
  ![v14.toNat, 0]
def k0_off2 (k0_t1 : Fin k0_t1_loop.trips) (c0_i32_3 : BitVec 32) : Fin 2 → Nat :=
  let c2_i32_2 : BitVec 32 := 2#32
  let c0_i32 : BitVec 32 := 0#32
  let c1_i32 : BitVec 32 := 1#32
  let arg5 : BitVec 32 := Scf.iv c0_i32 c1_i32 k0_t1
  let v17 : BitVec 32 := Scalar.muli c2_i32_2 arg5
  let v18 : BitVec 32 := Scalar.addi v17 c0_i32_3
  let v19 : Index := Scalar.indexCast v18
  let c0_4 : Index := 0#32
  ![v19.toNat, 0]
def k0_off3 (k0_t1 : Fin k0_t1_loop.trips) : Fin 2 → Nat :=
  let c0_i32 : BitVec 32 := 0#32
  let c1_i32 : BitVec 32 := 1#32
  let arg5 : BitVec 32 := Scf.iv c0_i32 c1_i32 k0_t1
  let c2_i32 : BitVec 32 := 2#32
  let v11 : BitVec 32 := Scalar.muli arg5 c2_i32
  let c16_i32 : BitVec 32 := 16#32
  let v12 : BitVec 32 := Scalar.muli v11 c16_i32
  let v13 : BitVec 32 := v12
  let v54 : Index := Scalar.indexCast v13
  let c0_11 : Index := 0#32
  ![v54.toNat, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4608x112 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S288x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4608x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![14, 32], ![false, false]⟩

def k1_cond1 (i : grid1.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_0 : BitVec 32 := 0#32
  let v5 : BitVec 1 := Scalar.cmpi .ne v4 c0_i32_0
  v5

@[reducible] def k1_t1_loop : Scf.Loop 32 :=
  let c0_i32_8 : BitVec 32 := 0#32
  let c576_i32 : BitVec 32 := 576#32
  let v16 : BitVec 32 := Scalar.addi c0_i32_8 c576_i32
  let c1_i32 : BitVec 32 := 1#32
  ⟨c0_i32_8, v16, c1_i32⟩
def k1_mult1 (k1_t1 : Fin k1_t1_loop.trips) : BitVec 32 :=
  let c0_i32_8 : BitVec 32 := 0#32
  let c1_i32 : BitVec 32 := 1#32
  let arg8 : BitVec 32 := Scf.iv c0_i32_8 c1_i32 k1_t1
  let c32_i32 : BitVec 32 := 32#32
  let v17 : BitVec 32 := Scalar.muli arg8 c32_i32
  v17
def k1_off1 (k1_t1 : Fin k1_t1_loop.trips) (c0_i32_10 : BitVec 32) : Fin 2 → Nat :=
  let c0_i32_8 : BitVec 32 := 0#32
  let c1_i32 : BitVec 32 := 1#32
  let arg8 : BitVec 32 := Scf.iv c0_i32_8 c1_i32 k1_t1
  let c32_i32 : BitVec 32 := 32#32
  let v17 : BitVec 32 := Scalar.muli arg8 c32_i32
  let v18 : BitVec 32 := v17
  let v19 : BitVec 32 := Scalar.addi v18 c0_i32_10
  let v20 : Index := Scalar.indexCast v19
  let c0_11 : Index := 0#32
  ![v20.toNat, 0]
def k1_off2 (k1_t1 : Fin k1_t1_loop.trips) : Fin 2 → Nat :=
  let c0_i32_8 : BitVec 32 := 0#32
  let c1_i32 : BitVec 32 := 1#32
  let arg8 : BitVec 32 := Scf.iv c0_i32_8 c1_i32 k1_t1
  let c32_i32 : BitVec 32 := 32#32
  let v17 : BitVec 32 := Scalar.muli arg8 c32_i32
  let v18 : BitVec 32 := v17
  let v29 : Index := Scalar.indexCast v18
  let c0_13 : Index := 0#32
  ![v29.toNat, 0]
def k1_off3 (k1_t1 : Fin k1_t1_loop.trips) (c0_i32_36 : BitVec 32) : Fin 2 → Nat :=
  let c0_i32_8 : BitVec 32 := 0#32
  let c1_i32 : BitVec 32 := 1#32
  let arg8 : BitVec 32 := Scf.iv c0_i32_8 c1_i32 k1_t1
  let c32_i32 : BitVec 32 := 32#32
  let v17 : BitVec 32 := Scalar.muli arg8 c32_i32
  let v18 : BitVec 32 := v17
  let v95 : BitVec 32 := Scalar.addi v18 c0_i32_36
  let v96 : Index := Scalar.indexCast v95
  let c0_37 : Index := 0#32
  ![v96.toNat, 0]
def k1_off4 (k1_t1 : Fin k1_t1_loop.trips) (c0_i32_62 : BitVec 32) : Fin 2 → Nat :=
  let c0_i32_8 : BitVec 32 := 0#32
  let c1_i32 : BitVec 32 := 1#32
  let arg8 : BitVec 32 := Scf.iv c0_i32_8 c1_i32 k1_t1
  let c32_i32 : BitVec 32 := 32#32
  let v17 : BitVec 32 := Scalar.muli arg8 c32_i32
  let v18 : BitVec 32 := v17
  let v162 : BitVec 32 := Scalar.addi v18 c0_i32_62
  let v163 : Index := Scalar.indexCast v162
  let c256 : Index := 256#32
  ![v163.toNat, 256]
def k1_off5 (k1_t1 : Fin k1_t1_loop.trips) : Fin 2 → Nat :=
  let c0_i32_8 : BitVec 32 := 0#32
  let c1_i32 : BitVec 32 := 1#32
  let arg8 : BitVec 32 := Scf.iv c0_i32_8 c1_i32 k1_t1
  let c32_i32 : BitVec 32 := 32#32
  let v17 : BitVec 32 := Scalar.muli arg8 c32_i32
  let v18 : BitVec 32 := v17
  let v302 : Index := Scalar.indexCast v18
  let c128 : Index := 128#32
  ![v302.toNat, 128]
def k1_off6 (k1_t1 : Fin k1_t1_loop.trips) (c0_i32_153 : BitVec 32) : Fin 2 → Nat :=
  let c0_i32_8 : BitVec 32 := 0#32
  let c1_i32 : BitVec 32 := 1#32
  let arg8 : BitVec 32 := Scf.iv c0_i32_8 c1_i32 k1_t1
  let c32_i32 : BitVec 32 := 32#32
  let v17 : BitVec 32 := Scalar.muli arg8 c32_i32
  let v18 : BitVec 32 := v17
  let v368 : BitVec 32 := Scalar.addi v18 c0_i32_153
  let v369 : Index := Scalar.indexCast v368
  let c128_154 : Index := 128#32
  ![v369.toNat, 128]
def k1_off7 (k1_t1 : Fin k1_t1_loop.trips) (c0_i32_184 : BitVec 32) : Fin 2 → Nat :=
  let c0_i32_8 : BitVec 32 := 0#32
  let c1_i32 : BitVec 32 := 1#32
  let arg8 : BitVec 32 := Scf.iv c0_i32_8 c1_i32 k1_t1
  let c32_i32 : BitVec 32 := 32#32
  let v17 : BitVec 32 := Scalar.muli arg8 c32_i32
  let v18 : BitVec 32 := v17
  let v435 : BitVec 32 := Scalar.addi v18 c0_i32_184
  let v436 : Index := Scalar.indexCast v435
  let c384 : Index := 384#32
  ![v436.toNat, 384]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S256x18432 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S18432x256 .i8 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 1 → Memref sig .tc .vmem S18432x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S256x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S256x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== ReferenceIdeal.lean ====
abbrev S16x512x18432 : Shape := ⟨3, ![16, 512, 18432]⟩
abbrev S18432x3584 : Shape := ⟨2, ![18432, 3584]⟩
abbrev S18432x112 : Shape := ⟨2, ![18432, 112]⟩
abbrev S8064 : Shape := ⟨1, ![8064]⟩
abbrev S1 : Shape := ⟨1, ![1]⟩
abbrev S8064x256 : Shape := ⟨2, ![8064, 256]⟩
abbrev S8064x1 : Shape := ⟨2, ![8064, 1]⟩
abbrev S_ : Shape := ⟨0, ![]⟩
abbrev S18432x56 : Shape := ⟨2, ![18432, 56]⟩
abbrev S18432x56x64 : Shape := ⟨3, ![18432, 56, 64]⟩
abbrev S18432x56x1 : Shape := ⟨3, ![18432, 56, 1]⟩
abbrev S16x512x3584 : Shape := ⟨3, ![16, 512, 3584]⟩
abbrev S16x512x7168 : Shape := ⟨3, ![16, 512, 7168]⟩

abbrev nBuf : Space → Nat
  | .hbm => 181
  | .vmem => 0
  | .smem => 0
  | _ => 0

abbrev hbmTy0_0 (i : Nat) : BufTy := match i % 128 with
  | 0 => ⟨S16x512x18432, .bf16⟩
  | 1 => ⟨S18432x3584, .i8⟩
  | 2 => ⟨S18432x112, .i8⟩
  | 3 => ⟨S8064, .f32⟩
  | 4 => ⟨S1, .f32⟩
  | 5 => ⟨S18432x112, .i32⟩
  | 6 => ⟨S18432x112, .f32⟩
  | 7 => ⟨S8064x256, .f32⟩
  | 8 => ⟨S8064x1, .f32⟩
  | 9 => ⟨S8064x256, .f32⟩
  | 10 => ⟨S8064x256, .f32⟩
  | 11 => ⟨S_, .f32⟩
  | 12 => ⟨S8064x256, .f32⟩
  | 13 => ⟨S8064x256, .f32⟩
  | 14 => ⟨S18432x112, .f32⟩
  | 15 => ⟨S18432x112, .bf16⟩
  | 16 => ⟨S18432x3584, .i32⟩
  | 17 => ⟨S_, .i32⟩
  | 18 => ⟨S18432x3584, .i32⟩
  | 19 => ⟨S18432x3584, .i32⟩
  | 20 => ⟨S_, .i32⟩
  | 21 => ⟨S18432x3584, .i32⟩
  | 22 => ⟨S18432x3584, .i32⟩
  | 23 => ⟨S18432x56, .bf16⟩
  | 24 => ⟨S_, .i32⟩
  | 25 => ⟨S18432x3584, .i32⟩
  | 26 => ⟨S18432x3584, .i32⟩
  | 27 => ⟨S_, .i32⟩
  | 28 => ⟨S18432x3584, .i32⟩
  | 29 => ⟨S18432x3584, .i1⟩
  | 30 => ⟨S_, .i32⟩
  | 31 => ⟨S18432x3584, .i32⟩
  | 32 => ⟨S18432x3584, .i32⟩
  | 33 => ⟨S_, .i32⟩
  | 34 => ⟨S18432x3584, .i32⟩
  | 35 => ⟨S18432x3584, .i1⟩
  | 36 => ⟨S_, .i32⟩
  | 37 => ⟨S18432x3584, .i32⟩
  | 38 => ⟨S18432x3584, .i32⟩
  | 39 => ⟨S_, .i32⟩
  | 40 => ⟨S18432x3584, .i32⟩
  | 41 => ⟨S18432x3584, .i1⟩
  | 42 => ⟨S_, .i32⟩
  | 43 => ⟨S18432x3584, .i32⟩
  | 44 => ⟨S18432x3584, .i32⟩
  | 45 => ⟨S_, .i32⟩
  | 46 => ⟨S18432x3584, .i32⟩
  | 47 => ⟨S18432x3584, .i1⟩
  | 48 => ⟨S_, .bf16⟩
  | 49 => ⟨S_, .bf16⟩
  | 50 => ⟨S18432x3584, .bf16⟩
  | 51 => ⟨S18432x3584, .bf16⟩
  | 52 => ⟨S18432x3584, .bf16⟩
  | 53 => ⟨S_, .bf16⟩
  | 54 => ⟨S_, .bf16⟩
  | 55 => ⟨S18432x3584, .bf16⟩
  | 56 => ⟨S18432x3584, .bf16⟩
  | 57 => ⟨S18432x3584, .bf16⟩
  | 58 => ⟨S18432x3584, .bf16⟩
  | 59 => ⟨S_, .bf16⟩
  | 60 => ⟨S_, .bf16⟩
  | 61 => ⟨S18432x3584, .bf16⟩
  | 62 => ⟨S18432x3584, .bf16⟩
  | 63 => ⟨S18432x3584, .bf16⟩
  | 64 => ⟨S_, .bf16⟩
  | 65 => ⟨S_, .bf16⟩
  | 66 => ⟨S18432x3584, .bf16⟩
  | 67 => ⟨S18432x3584, .bf16⟩
  | 68 => ⟨S18432x3584, .bf16⟩
  | 69 => ⟨S18432x3584, .bf16⟩
  | 70 => ⟨S18432x3584, .bf16⟩
  | 71 => ⟨S_, .bf16⟩
  | 72 => ⟨S_, .bf16⟩
  | 73 => ⟨S18432x3584, .bf16⟩
  | 74 => ⟨S18432x3584, .bf16⟩
  | 75 => ⟨S18432x3584, .bf16⟩
  | 76 => ⟨S_, .bf16⟩
  | 77 => ⟨S_, .bf16⟩
  | 78 => ⟨S18432x3584, .bf16⟩
  | 79 => ⟨S18432x3584, .bf16⟩
  | 80 => ⟨S18432x3584, .bf16⟩
  | 81 => ⟨S18432x3584, .bf16⟩
  | 82 => ⟨S_, .bf16⟩
  | 83 => ⟨S_, .bf16⟩
  | 84 => ⟨S18432x3584, .bf16⟩
  | 85 => ⟨S18432x3584, .bf16⟩
  | 86 => ⟨S18432x3584, .bf16⟩
  | 87 => ⟨S_, .bf16⟩
  | 88 => ⟨S_, .bf16⟩
  | 89 => ⟨S18432x3584, .bf16⟩
  | 90 => ⟨S18432x3584, .bf16⟩
  | 91 => ⟨S18432x3584, .bf16⟩
  | 92 => ⟨S18432x3584, .bf16⟩
  | 93 => ⟨S18432x3584, .bf16⟩
  | 94 => ⟨S18432x3584, .bf16⟩
  | 95 => ⟨S18432x56x64, .bf16⟩
  | 96 => ⟨S18432x56x1, .bf16⟩
  | 97 => ⟨S18432x56x64, .bf16⟩
  | 98 => ⟨S18432x56x64, .bf16⟩
  | 99 => ⟨S18432x3584, .bf16⟩
  | 100 => ⟨S18432x56, .bf16⟩
  | 101 => ⟨S_, .i32⟩
  | 102 => ⟨S18432x3584, .i32⟩
  | 103 => ⟨S18432x3584, .i32⟩
  | 104 => ⟨S_, .i32⟩
  | 105 => ⟨S18432x3584, .i32⟩
  | 106 => ⟨S18432x3584, .i1⟩
  | 107 => ⟨S_, .i32⟩
  | 108 => ⟨S18432x3584, .i32⟩
  | 109 => ⟨S18432x3584, .i32⟩
  | 110 => ⟨S_, .i32⟩
  | 111 => ⟨S18432x3584, .i32⟩
  | 112 => ⟨S18432x3584, .i1⟩
  | 113 => ⟨S_, .i32⟩
  | 114 => ⟨S18432x3584, .i32⟩
  | 115 => ⟨S18432x3584, .i32⟩
  | 116 => ⟨S_, .i32⟩
  | 117 => ⟨S18432x3584, .i32⟩
  | 118 => ⟨S18432x3584, .i1⟩
  | 119 => ⟨S_, .i32⟩
  | 120 => ⟨S18432x3584, .i32⟩
  | 121 => ⟨S18432x3584, .i32⟩
  | 122 => ⟨S_, .i32⟩
  | 123 => ⟨S18432x3584, .i32⟩
  | 124 => ⟨S18432x3584, .i1⟩
  | 125 => ⟨S_, .bf16⟩
  | 126 => ⟨S_, .bf16⟩
  | 127 => ⟨S18432x3584, .bf16⟩
  | _ => ⟨S16x512x18432, .bf16⟩

abbrev hbmTy0_1 (i : Nat) : BufTy := match i % 128 with
  | 0 => ⟨S18432x3584, .bf16⟩
  | 1 => ⟨S18432x3584, .bf16⟩
  | 2 => ⟨S_, .bf16⟩
  | 3 => ⟨S_, .bf16⟩
  | 4 => ⟨S18432x3584, .bf16⟩
  | 5 => ⟨S18432x3584, .bf16⟩
  | 6 => ⟨S18432x3584, .bf16⟩
  | 7 => ⟨S18432x3584, .bf16⟩
  | 8 => ⟨S_, .bf16⟩
  | 9 => ⟨S_, .bf16⟩
  | 10 => ⟨S18432x3584, .bf16⟩
  | 11 => ⟨S18432x3584, .bf16⟩
  | 12 => ⟨S18432x3584, .bf16⟩
  | 13 => ⟨S_, .bf16⟩
  | 14 => ⟨S_, .bf16⟩
  | 15 => ⟨S18432x3584, .bf16⟩
  | 16 => ⟨S18432x3584, .bf16⟩
  | 17 => ⟨S18432x3584, .bf16⟩
  | 18 => ⟨S18432x3584, .bf16⟩
  | 19 => ⟨S18432x3584, .bf16⟩
  | 20 => ⟨S_, .bf16⟩
  | 21 => ⟨S_, .bf16⟩
  | 22 => ⟨S18432x3584, .bf16⟩
  | 23 => ⟨S18432x3584, .bf16⟩
  | 24 => ⟨S18432x3584, .bf16⟩
  | 25 => ⟨S_, .bf16⟩
  | 26 => ⟨S_, .bf16⟩
  | 27 => ⟨S18432x3584, .bf16⟩
  | 28 => ⟨S18432x3584, .bf16⟩
  | 29 => ⟨S18432x3584, .bf16⟩
  | 30 => ⟨S18432x3584, .bf16⟩
  | 31 => ⟨S_, .bf16⟩
  | 32 => ⟨S_, .bf16⟩
  | 33 => ⟨S18432x3584, .bf16⟩
  | 34 => ⟨S18432x3584, .bf16⟩
  | 35 => ⟨S18432x3584, .bf16⟩
  | 36 => ⟨S_, .bf16⟩
  | 37 => ⟨S_, .bf16⟩
  | 38 => ⟨S18432x3584, .bf16⟩
  | 39 => ⟨S18432x3584, .bf16⟩
  | 40 => ⟨S18432x3584, .bf16⟩
  | 41 => ⟨S18432x3584, .bf16⟩
  | 42 => ⟨S18432x3584, .bf16⟩
  | 43 => ⟨S18432x3584, .bf16⟩
  | 44 => ⟨S18432x56x64, .bf16⟩
  | 45 => ⟨S18432x56x1, .bf16⟩
  | 46 => ⟨S18432x56x64, .bf16⟩
  | 47 => ⟨S18432x56x64, .bf16⟩
  | 48 => ⟨S18432x3584, .bf16⟩
  | 49 => ⟨S16x512x3584, .f32⟩
  | 50 => ⟨S16x512x3584, .f32⟩
  | 51 => ⟨S16x512x7168, .f32⟩
  | 52 => ⟨S16x512x7168, .bf16⟩
  | _ => ⟨S16x512x18432, .bf16⟩

abbrev hbmTy (i : Nat) : BufTy := match i / 128 with
  | 0 => hbmTy0_0 i
  | 1 => hbmTy0_1 i
  | _ => ⟨S16x512x18432, .bf16⟩

abbrev bufTy : (tb : Table) → Fin (tcTables nBuf tb) → BufTy
  | .hbm, ⟨i, _⟩ => hbmTy i
  | _, _ => ⟨S16x512x18432, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_c_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_1 : Ref sig .tc := ⟨.hbm, 24, rfl⟩
abbrev main_v17 : Ref sig .tc := ⟨.hbm, 25, rfl⟩
abbrev main_v18 : Ref sig .tc := ⟨.hbm, 26, rfl⟩
abbrev main_c_2 : Ref sig .tc := ⟨.hbm, 27, rfl⟩
abbrev main_v19 : Ref sig .tc := ⟨.hbm, 28, rfl⟩
abbrev main_v20 : Ref sig .tc := ⟨.hbm, 29, rfl⟩
abbrev main_c_3 : Ref sig .tc := ⟨.hbm, 30, rfl⟩
abbrev main_v21 : Ref sig .tc := ⟨.hbm, 31, rfl⟩
abbrev main_v22 : Ref sig .tc := ⟨.hbm, 32, rfl⟩
abbrev main_c_4 : Ref sig .tc := ⟨.hbm, 33, rfl⟩
abbrev main_v23 : Ref sig .tc := ⟨.hbm, 34, rfl⟩
abbrev main_v24 : Ref sig .tc := ⟨.hbm, 35, rfl⟩
abbrev main_c_5 : Ref sig .tc := ⟨.hbm, 36, rfl⟩
abbrev main_v25 : Ref sig .tc := ⟨.hbm, 37, rfl⟩
abbrev main_v26 : Ref sig .tc := ⟨.hbm, 38, rfl⟩
abbrev main_c_6 : Ref sig .tc := ⟨.hbm, 39, rfl⟩
abbrev main_v27 : Ref sig .tc := ⟨.hbm, 40, rfl⟩
abbrev main_v28 : Ref sig .tc := ⟨.hbm, 41, rfl⟩
abbrev main_c_7 : Ref sig .tc := ⟨.hbm, 42, rfl⟩
abbrev main_v29 : Ref sig .tc := ⟨.hbm, 43, rfl⟩
abbrev main_v30 : Ref sig .tc := ⟨.hbm, 44, rfl⟩
abbrev main_c_8 : Ref sig .tc := ⟨.hbm, 45, rfl⟩
abbrev main_v31 : Ref sig .tc := ⟨.hbm, 46, rfl⟩
abbrev main_v32 : Ref sig .tc := ⟨.hbm, 47, rfl⟩
abbrev main_cst : Ref sig .tc := ⟨.hbm, 48, rfl⟩
abbrev main_cst_9 : Ref sig .tc := ⟨.hbm, 49, rfl⟩
abbrev main_call0_v0 : Ref sig .tc := ⟨.hbm, 50, rfl⟩
abbrev main_call0_v1 : Ref sig .tc := ⟨.hbm, 51, rfl⟩
abbrev main_v33 : Ref sig .tc := ⟨.hbm, 52, rfl⟩
abbrev main_cst_10 : Ref sig .tc := ⟨.hbm, 53, rfl⟩
abbrev main_cst_11 : Ref sig .tc := ⟨.hbm, 54, rfl⟩
abbrev main_call1_v0 : Ref sig .tc := ⟨.hbm, 55, rfl⟩
abbrev main_call1_v1 : Ref sig .tc := ⟨.hbm, 56, rfl⟩
abbrev main_v34 : Ref sig .tc := ⟨.hbm, 57, rfl⟩
abbrev main_v35 : Ref sig .tc := ⟨.hbm, 58, rfl⟩
abbrev main_cst_12 : Ref sig .tc := ⟨.hbm, 59, rfl⟩
abbrev main_cst_13 : Ref sig .tc := ⟨.hbm, 60, rfl⟩
abbrev main_call3_v0 : Ref sig .tc := ⟨.hbm, 61, rfl⟩
abbrev main_call3_v1 : Ref sig .tc := ⟨.hbm, 62, rfl⟩
abbrev main_v36 : Ref sig .tc := ⟨.hbm, 63, rfl⟩
abbrev main_cst_14 : Ref sig .tc := ⟨.hbm, 64, rfl⟩
abbrev main_cst_15 : Ref sig .tc := ⟨.hbm, 65, rfl⟩
abbrev main_call4_v0 : Ref sig .tc := ⟨.hbm, 66, rfl⟩
abbrev main_call4_v1 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_16 : Ref sig .tc := ⟨.hbm, 71, rfl⟩
abbrev main_cst_17 : Ref sig .tc := ⟨.hbm, 72, rfl⟩
abbrev main_call7_v0 : Ref sig .tc := ⟨.hbm, 73, rfl⟩
abbrev main_call7_v1 : Ref sig .tc := ⟨.hbm, 74, rfl⟩
abbrev main_v40 : Ref sig .tc := ⟨.hbm, 75, rfl⟩
abbrev main_cst_18 : Ref sig .tc := ⟨.hbm, 76, rfl⟩
abbrev main_cst_19 : Ref sig .tc := ⟨.hbm, 77, rfl⟩
abbrev main_call8_v0 : Ref sig .tc := ⟨.hbm, 78, rfl⟩
abbrev main_call8_v1 : Ref sig .tc := ⟨.hbm, 79, rfl⟩
abbrev main_v41 : Ref sig .tc := ⟨.hbm, 80, rfl⟩
abbrev main_v42 : Ref sig .tc := ⟨.hbm, 81, rfl⟩
abbrev main_cst_20 : Ref sig .tc := ⟨.hbm, 82, rfl⟩
abbrev main_cst_21 : Ref sig .tc := ⟨.hbm, 83, rfl⟩
abbrev main_call10_v0 : Ref sig .tc := ⟨.hbm, 84, rfl⟩
abbrev main_call10_v1 : Ref sig .tc := ⟨.hbm, 85, rfl⟩
abbrev main_v43 : Ref sig .tc := ⟨.hbm, 86, rfl⟩
abbrev main_cst_22 : Ref sig .tc := ⟨.hbm, 87, rfl⟩
abbrev main_cst_23 : Ref sig .tc := ⟨.hbm, 88, rfl⟩
abbrev main_call11_v0 : Ref sig .tc := ⟨.hbm, 89, rfl⟩
abbrev main_call11_v1 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_c_24 : Ref sig .tc := ⟨.hbm, 101, rfl⟩
abbrev main_v54 : Ref sig .tc := ⟨.hbm, 102, rfl⟩
abbrev main_v55 : Ref sig .tc := ⟨.hbm, 103, rfl⟩
abbrev main_c_25 : Ref sig .tc := ⟨.hbm, 104, rfl⟩
abbrev main_v56 : Ref sig .tc := ⟨.hbm, 105, rfl⟩
abbrev main_v57 : Ref sig .tc := ⟨.hbm, 106, rfl⟩
abbrev main_c_26 : Ref sig .tc := ⟨.hbm, 107, rfl⟩
abbrev main_v58 : Ref sig .tc := ⟨.hbm, 108, rfl⟩
abbrev main_v59 : Ref sig .tc := ⟨.hbm, 109, rfl⟩
abbrev main_c_27 : Ref sig .tc := ⟨.hbm, 110, rfl⟩
abbrev main_v60 : Ref sig .tc := ⟨.hbm, 111, rfl⟩
abbrev main_v61 : Ref sig .tc := ⟨.hbm, 112, rfl⟩
abbrev main_c_28 : Ref sig .tc := ⟨.hbm, 113, rfl⟩
abbrev main_v62 : Ref sig .tc := ⟨.hbm, 114, rfl⟩
abbrev main_v63 : Ref sig .tc := ⟨.hbm, 115, rfl⟩
abbrev main_c_29 : Ref sig .tc := ⟨.hbm, 116, rfl⟩
abbrev main_v64 : Ref sig .tc := ⟨.hbm, 117, rfl⟩
abbrev main_v65 : Ref sig .tc := ⟨.hbm, 118, rfl⟩
abbrev main_c_30 : Ref sig .tc := ⟨.hbm, 119, rfl⟩
abbrev main_v66 : Ref sig .tc := ⟨.hbm, 120, rfl⟩
abbrev main_v67 : Ref sig .tc := ⟨.hbm, 121, rfl⟩
abbrev main_c_31 : Ref sig .tc := ⟨.hbm, 122, rfl⟩
abbrev main_v68 : Ref sig .tc := ⟨.hbm, 123, rfl⟩
abbrev main_v69 : Ref sig .tc := ⟨.hbm, 124, rfl⟩
abbrev main_cst_32 : Ref sig .tc := ⟨.hbm, 125, rfl⟩
abbrev main_cst_33 : Ref sig .tc := ⟨.hbm, 126, rfl⟩
abbrev main_call15_v0 : Ref sig .tc := ⟨.hbm, 127, rfl⟩
abbrev main_call15_v1 : Ref sig .tc := ⟨.hbm, 128, rfl⟩
abbrev main_v70 : Ref sig .tc := ⟨.hbm, 129, rfl⟩
abbrev main_cst_34 : Ref sig .tc := ⟨.hbm, 130, rfl⟩
abbrev main_cst_35 : Ref sig .tc := ⟨.hbm, 131, rfl⟩
abbrev main_call16_v0 : Ref sig .tc := ⟨.hbm, 132, rfl⟩
abbrev main_call16_v1 : Ref sig .tc := ⟨.hbm, 133, rfl⟩
abbrev main_v71 : Ref sig .tc := ⟨.hbm, 134, rfl⟩
abbrev main_v72 : Ref sig .tc := ⟨.hbm, 135, rfl⟩
abbrev main_cst_36 : Ref sig .tc := ⟨.hbm, 136, rfl⟩
abbrev main_cst_37 : Ref sig .tc := ⟨.hbm, 137, rfl⟩
abbrev main_call18_v0 : Ref sig .tc := ⟨.hbm, 138, rfl⟩
abbrev main_call18_v1 : Ref sig .tc := ⟨.hbm, 139, rfl⟩
abbrev main_v73 : Ref sig .tc := ⟨.hbm, 140, rfl⟩
abbrev main_cst_38 : Ref sig .tc := ⟨.hbm, 141, rfl⟩
abbrev main_cst_39 : Ref sig .tc := ⟨.hbm, 142, rfl⟩
abbrev main_call19_v0 : Ref sig .tc := ⟨.hbm, 143, rfl⟩
abbrev main_call19_v1 : Ref sig .tc := ⟨.hbm, 144, rfl⟩
abbrev main_v74 : Ref sig .tc := ⟨.hbm, 145, rfl⟩
abbrev main_v75 : Ref sig .tc := ⟨.hbm, 146, rfl⟩
abbrev main_v76 : Ref sig .tc := ⟨.hbm, 147, rfl⟩
abbrev main_cst_40 : Ref sig .tc := ⟨.hbm, 148, rfl⟩
abbrev main_cst_41 : Ref sig .tc := ⟨.hbm, 149, rfl⟩
abbrev main_call22_v0 : Ref sig .tc := ⟨.hbm, 150, rfl⟩
abbrev main_call22_v1 : Ref sig .tc := ⟨.hbm, 151, rfl⟩
abbrev main_v77 : Ref sig .tc := ⟨.hbm, 152, rfl⟩
abbrev main_cst_42 : Ref sig .tc := ⟨.hbm, 153, rfl⟩
abbrev main_cst_43 : Ref sig .tc := ⟨.hbm, 154, rfl⟩
abbrev main_call23_v0 : Ref sig .tc := ⟨.hbm, 155, rfl⟩
abbrev main_call23_v1 : Ref sig .tc := ⟨.hbm, 156, rfl⟩
abbrev main_v78 : Ref sig .tc := ⟨.hbm, 157, rfl⟩
abbrev main_v79 : Ref sig .tc := ⟨.hbm, 158, rfl⟩
abbrev main_cst_44 : Ref sig .tc := ⟨.hbm, 159, rfl⟩
abbrev main_cst_45 : Ref sig .tc := ⟨.hbm, 160, rfl⟩
abbrev main_call25_v0 : Ref sig .tc := ⟨.hbm, 161, rfl⟩
abbrev main_call25_v1 : Ref sig .tc := ⟨.hbm, 162, rfl⟩
abbrev main_v80 : Ref sig .tc := ⟨.hbm, 163, rfl⟩
abbrev main_cst_46 : Ref sig .tc := ⟨.hbm, 164, rfl⟩
abbrev main_cst_47 : Ref sig .tc := ⟨.hbm, 165, rfl⟩
abbrev main_call26_v0 : Ref sig .tc := ⟨.hbm, 166, rfl⟩
abbrev main_call26_v1 : Ref sig .tc := ⟨.hbm, 167, rfl⟩
abbrev main_v81 : Ref sig .tc := ⟨.hbm, 168, rfl⟩
abbrev main_v82 : Ref sig .tc := ⟨.hbm, 169, rfl⟩
abbrev main_v83 : Ref sig .tc := ⟨.hbm, 170, rfl⟩
abbrev main_v84 : Ref sig .tc := ⟨.hbm, 171, rfl⟩
abbrev main_v85 : Ref sig .tc := ⟨.hbm, 172, rfl⟩
abbrev main_v86 : Ref sig .tc := ⟨.hbm, 173, rfl⟩
abbrev main_v87 : Ref sig .tc := ⟨.hbm, 174, rfl⟩
abbrev main_v88 : Ref sig .tc := ⟨.hbm, 175, rfl⟩
abbrev main_v89 : Ref sig .tc := ⟨.hbm, 176, rfl⟩
abbrev main_v90 : Ref sig .tc := ⟨.hbm, 177, rfl⟩
abbrev main_v91 : Ref sig .tc := ⟨.hbm, 178, rfl⟩
abbrev main_v92 : Ref sig .tc := ⟨.hbm, 179, rfl⟩
abbrev main_v93 : Ref sig .tc := ⟨.hbm, 180, rfl⟩

abbrev nD : Nat := 1
abbrev τ : Topo := Topo.v7x

variable {F : FTy → Type} [FloatOps F]
-- ==== Proof.Base.lean ====
/-
  The algebra that the run of the whole program is carried out in: two copies of the pipeline library's round algebra, one for each
  of the two kernel launches.
-/
module

public import proofs.«01_k».proof.Proof.Gen.KernelIdeal.Launch
public import Idealize.ShloMosaic.Lib.Pipeline.RegionsLoop

@[expose] public section

noncomputable section

namespace Cert.KernelIdeal

open Idealize.ShloMosaic Idealize.SL.RA Idealize.ShloMosaic.Rounds

/-- One copy of the pipeline library's algebra for each of the two launches. -/
abbrev UU : Type := IProdConst (Fin 2) (UR sig nD τ) × Counters

end Cert.KernelIdeal

end
-- ==== Proof.Run0.lean ====
module

public import proofs.«01_k».proof.Proof.Base
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit
public import Idealize.ShloMosaic.Lib.Pipeline.DatRel

@[expose] public section

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ### `k0_t1_loop`: the generated invariant (classifier: affine) -/

/-- One trip's resources: what the region reads (arg2, arg3) at its contents, what it writes (arg4)
   at any. -/
abbrev Trip_k0_t1 (c : Dev nD) (arg2 : Memref sig .tc .vmem S4608x112 .i8) (arg3 : Memref sig .tc .vmem S288x128 .f32) (arg4 : Memref sig .tc .vmem S4608x128 .bf16) (X_arg2 : BufTy.Contents (Elt F) arg2.view.ty) (X_arg3 : BufTy.Contents (Elt F) arg3.view.ty) (f_arg4 : BufTy.Contents (Elt F) arg4.view.ty) : sProp 𝕄 :=
  iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} f_arg4))

/-- ONE TRIP of `k0_t1_loop` at a symbolic `k`, run by `sl_exec` (its rectangles' offsets closed
   forms of `k`, their geometry linear arithmetic): the pieces it writes into arg4 are the run's own
   finds — the witnesses `sl_close` assigns handing the buffers to the continuation.
   `@[irreducible]`: cited, never unfolded. -/
@[irreducible] def trip_k0_t1 (𝒱 : Variants) (c : Dev nD) (bd : Option 𝒱.V) (i : grid0.Coords) (arg1 : Memref sig .tc .smem S1 .f32) (harg1 : arg1.IsWhole) (arg2 : Memref sig .tc .vmem S4608x112 .i8) (harg2 : arg2.IsWhole) (arg3 : Memref sig .tc .vmem S288x128 .f32) (harg3 : arg3.IsWhole) (arg4 : Memref sig .tc .vmem S4608x128 .bf16) (harg4 : arg4.IsWhole) (v9 : Elt F .f32) (X_arg2 : BufTy.Contents (Elt F) arg2.view.ty) (X_arg3 : BufTy.Contents (Elt F) arg3.view.ty) (k : Fin k0_t1_loop.trips) :
    { L_arg4 : List (View.Piece (Elt F) S4608x128 .bf16) // ∀ (E : Set ℕ) (f_arg4 : BufTy.Contents (Elt F) arg4.view.ty),
      Trip_k0_t1 (F := F) c arg2 arg3 arg4 X_arg2 X_arg3 f_arg4
      ⊢ wp frame (wpE (defs₀ (F := F)) 𝒱 (c : Thread nD τ) bd) E (k0_t1_body (F := F) i arg1 harg1 arg2 harg2 arg3 harg3 arg4 harg4 v9 k PUnit.unit)
          (fun _ => Trip_k0_t1 (F := F) c arg2 arg3 arg4 X_arg2 X_arg3 (arg4.view.writes (Elt F) f_arg4 L_arg4)) } := by
  have hk : k.val < 144 := Nat.lt_of_lt_of_le k.isLt k0_t1_abs.2.1
  refine ⟨?_, fun E f_arg4 => ?run⟩
  case run =>
    unfold k0_t1_body
    iintro ⟨HR_arg2, HR_arg3, HW_arg4⟩
    sl_exec
    sl_step
    sl_close

/-- The trip's piece lists (plain projections of `trip_…`, for the recursion below to cite without
   its proof). -/
abbrev tripL_k0_t1 (𝒱 : Variants) (c : Dev nD) (bd : Option 𝒱.V) (i : grid0.Coords) (arg1 : Memref sig .tc .smem S1 .f32) (harg1 : arg1.IsWhole) (arg2 : Memref sig .tc .vmem S4608x112 .i8) (harg2 : arg2.IsWhole) (arg3 : Memref sig .tc .vmem S288x128 .f32) (harg3 : arg3.IsWhole) (arg4 : Memref sig .tc .vmem S4608x128 .bf16) (harg4 : arg4.IsWhole) (v9 : Elt F .f32) (X_arg2 : BufTy.Contents (Elt F) arg2.view.ty) (X_arg3 : BufTy.Contents (Elt F) arg3.view.ty) (k : Fin k0_t1_loop.trips) : List (View.Piece (Elt F) S4608x128 .bf16) :=
  (trip_k0_t1 (F := F) 𝒱 c bd i arg1 harg1 arg2 harg2 arg3 harg3 arg4 harg4 v9 X_arg2 X_arg3 k).1

/-- Trip `k`'s contribution to the state the recursion `pb_k0_t1` below carries (`prev`): its pieces
   in front, per written memref; past the last trip, `prev` itself. -/
@[irreducible] def pb_k0_t1Step (𝒱 : Variants) (c : Dev nD) (bd : Option 𝒱.V) (i : grid0.Coords) (arg1 : Memref sig .tc .smem S1 .f32) (harg1 : arg1.IsWhole) (arg2 : Memref sig .tc .vmem S4608x112 .i8) (harg2 : arg2.IsWhole) (arg3 : Memref sig .tc .vmem S288x128 .f32) (harg3 : arg3.IsWhole) (arg4 : Memref sig .tc .vmem S4608x128 .bf16) (harg4 : arg4.IsWhole) (v9 : Elt F .f32) (X_arg2 : BufTy.Contents (Elt F) arg2.view.ty) (X_arg3 : BufTy.Contents (Elt F) arg3.view.ty) (k : ℕ) (prev : List (View.Piece (Elt F) S4608x128 .bf16)) : List (View.Piece (Elt F) S4608x128 .bf16) :=
  if h : k < k0_t1_loop.trips then
    (tripL_k0_t1 (F := F) 𝒱 c bd i arg1 harg1 arg2 harg2 arg3 harg3 arg4 harg4 v9 X_arg2 X_arg3 ⟨k, h⟩) ++ prev
  else prev

/-- The pieces of the trips before `k` (last first), per written memref. -/
def pb_k0_t1 (𝒱 : Variants) (c : Dev nD) (bd : Option 𝒱.V) (i : grid0.Coords) (arg1 : Memref sig .tc .smem S1 .f32) (harg1 : arg1.IsWhole) (arg2 : Memref sig .tc .vmem S4608x112 .i8) (harg2 : arg2.IsWhole) (arg3 : Memref sig .tc .vmem S288x128 .f32) (harg3 : arg3.IsWhole) (arg4 : Memref sig .tc .vmem S4608x128 .bf16) (harg4 : arg4.IsWhole) (v9 : Elt F .f32) (X_arg2 : BufTy.Contents (Elt F) arg2.view.ty) (X_arg3 : BufTy.Contents (Elt F) arg3.view.ty) : ℕ → List (View.Piece (Elt F) S4608x128 .bf16)
  | 0 => []
  | k + 1 => pb_k0_t1Step 𝒱 c bd i arg1 harg1 arg2 harg2 arg3 harg3 arg4 harg4 v9 X_arg2 X_arg3 k (pb_k0_t1 𝒱 c bd i arg1 harg1 arg2 harg2 arg3 harg3 arg4 harg4 v9 X_arg2 X_arg3 k)

theorem pb_k0_t1_succ (𝒱 : Variants) (c : Dev nD) (bd : Option 𝒱.V) (i : grid0.Coords) (arg1 : Memref sig .tc .smem S1 .f32) (harg1 : arg1.IsWhole) (arg2 : Memref sig .tc .vmem S4608x112 .i8) (harg2 : arg2.IsWhole) (arg3 : Memref sig .tc .vmem S288x128 .f32) (harg3 : arg3.IsWhole) (arg4 : Memref sig .tc .vmem S4608x128 .bf16) (harg4 : arg4.IsWhole) (v9 : Elt F .f32) (X_arg2 : BufTy.Contents (Elt F) arg2.view.ty) (X_arg3 : BufTy.Contents (Elt F) arg3.view.ty) (k : Fin k0_t1_loop.trips) :
    pb_k0_t1 (F := F) 𝒱 c bd i arg1 harg1 arg2 harg2 arg3 harg3 arg4 harg4 v9 X_arg2 X_arg3 (k.val + 1)
      = (tripL_k0_t1 (F := F) 𝒱 c bd i arg1 harg1 arg2 harg2 arg3 harg3 arg4 harg4 v9 X_arg2 X_arg3 k) ++ (pb_k0_t1 (F := F) 𝒱 c bd i arg1 harg1 arg2 harg2 arg3 harg3 arg4 harg4 v9 X_arg2 X_arg3 k.val) := by
  rw [pb_k0_t1.eq_2]; unfold pb_k0_t1Step; exact dif_pos k.isLt

/-- THE INVARIANT before trip `k`: arg2, arg3 read at `X_·`; arg4 holding the pieces of the trips
   before `k` written over the contents at loop entry `G_·` (stated `∃ f, … ∗ ⌜f = …⌝`, so that a
   hypothesis of any contents matches and the equation is what is proved). -/
abbrev inv_k0_t1 (𝒱 : Variants) (c : Dev nD) (bd : Option 𝒱.V) (i : grid0.Coords) (arg1 : Memref sig .tc .smem S1 .f32) (harg1 : arg1.IsWhole) (arg2 : Memref sig .tc .vmem S4608x112 .i8) (harg2 : arg2.IsWhole) (arg3 : Memref sig .tc .vmem S288x128 .f32) (harg3 : arg3.IsWhole) (arg4 : Memref sig .tc .vmem S4608x128 .bf16) (harg4 : arg4.IsWhole) (v9 : Elt F .f32) (X_arg2 : BufTy.Contents (Elt F) arg2.view.ty) (X_arg3 : BufTy.Contents (Elt F) arg3.view.ty) (G_arg4 : BufTy.Contents (Elt F) arg4.view.ty) (k : ℕ) (_u : PUnit) : sProp 𝕄 :=
  iprop((arg2.view.loc (c : Thread nD τ) ↦[arg2.view.set]{fullShare} X_arg2) ∗ (arg3.view.loc (c : Thread nD τ) ↦[arg3.view.set]{fullShare} X_arg3) ∗ (∃ f, (arg4.view.loc (c : Thread nD τ) ↦[arg4.view.set]{fullShare} f) ∗ ⌜f = arg4.view.writes (Elt F) G_arg4 (pb_k0_t1 (F := F) 𝒱 c bd i arg1 harg1 arg2 harg2 arg3 harg3 arg4 harg4 v9 X_arg2 X_arg3 k)⌝))

set_option warn.classDefReducibility false in
/-- THE LOOP BY ITS INVARIANT — generated (`@[sl_loop]`: `sl_exec` finds it meeting `k0_t1_loop`,
   fixing `X_· G_·` against the context; after the loop each written memref holds `writes G (pb …
   trips)`). -/
@[sl_loop] def loopInv_k0_t1 (𝒱 : Variants) (c : Dev nD) (bd : Option 𝒱.V) (E : Set ℕ) (i : grid0.Coords) (arg1 : Memref sig .tc .smem S1 .f32) (harg1 : arg1.IsWhole) (arg2 : Memref sig .tc .vmem S4608x112 .i8) (harg2 : arg2.IsWhole) (arg3 : Memref sig .tc .vmem S288x128 .f32) (harg3 : arg3.IsWhole) (arg4 : Memref sig .tc .vmem S4608x128 .bf16) (harg4 : arg4.IsWhole) (v9 : Elt F .f32) (X_arg2 : BufTy.Contents (Elt F) arg2.view.ty) (X_arg3 : BufTy.Contents (Elt F) arg3.view.ty) (G_arg4 : BufTy.Contents (Elt F) arg4.view.ty) :
    LoopInvTy_k0_t1 (F := F) Unit ℕ UU ℕ 𝒱 c bd E i arg1 harg1 arg2 harg2 arg3 harg3 arg4 harg4 v9 where
  inv := inv_k0_t1 (F := F) 𝒱 c bd i arg1 harg1 arg2 harg2 arg3 harg3 arg4 harg4 v9 X_arg2 X_arg3 G_arg4
  step k acc := by
    iintro ⟨HR_arg2, HR_arg3, ⟨%f_arg4, HW_arg4, %h_arg4⟩⟩
    iapply (wp_wand_r Idealize.ShloMosaic.frame (wpE (defs₀ (F := F)) 𝒱 (c : Thread nD τ) bd) E)
    isplitl [HR_arg2 HR_arg3 HW_arg4]
    · iapply ((trip_k0_t1 (F := F) 𝒱 c bd i arg1 harg1 arg2 harg2 arg3 harg3 arg4 harg4 v9 X_arg2 X_arg3 k).2 E f_arg4)
      isplitl [HR_arg2]; · iexact HR_arg2
      isplitl [HR_arg3]; · iexact HR_arg3
      iexact HW_arg4
    · iintro %_ ⟨HR_arg2, HR_arg3, HW_arg4⟩
      isplitl [HR_arg2]; · iexact HR_arg2
      isplitl [HR_arg3]; · iexact HR_arg3
      rw [pb_k0_t1_succ]
      iexists _; isplitl [HW_arg4]; · iexact HW_arg4
      ipureintro; rw [h_arg4, ← View.writes_append]

variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ UU ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ UU ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ UU ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging memrefs: a subtype the run finds -/

/-- Each window's current staging memref at point `t`, spelled as the pipeline passes it (`bodyAt0`), and its wholeness. -/
abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4608x112 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S288x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4608x128 .bf16 := win0_3.stage (cfg0.slots t 3)
abbrev hs0_3 (t : Fin cfg0.N) : (ms0_3 t).IsWhole := hstage0_3 ((cfg0.slots t 3).cast nbuf0_3)

-- (the run's proof term is large: checking it walks past the default budget)
set_option maxHeartbeats 1000000 in
/-- What the body's stores leave in the output's staging memref, as pieces, with the proof that on whole staging memrefs — the inputs' at
    their contents, the output's at anything — the body runs to the continuation holding the inputs' as they were and the output's buffer
    with the pieces written over what it held. -/
noncomputable def kernelRun0_A (c : Dev nD) (i : grid0.Coords) (arg1 : Memref sig .tc .smem S1 .f32) (harg1 : arg1.IsWhole) (arg2 : Memref sig .tc .vmem S4608x112 .i8) (harg2 : arg2.IsWhole) (arg3 : Memref sig .tc .vmem S288x128 .f32) (harg3 : arg3.IsWhole) (arg4 : Memref sig .tc .vmem S4608x128 .bf16) (harg4 : arg4.IsWhole)
    (x0 : Vec F S1 .f32) (x1 : Vec F S4608x112 .i8) (x2 : Vec F S288x128 .f32) :
    { L3 : List (View.Piece (Elt F) S4608x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3)) -∗ K ⟨⟩))
          ⊢ wp frame (wpE (defs₀ (F := F)) Variants.none c none) E (cc0_absmax_decode i arg1 harg1 arg2 harg2 arg3 harg3 arg4 harg4) K } := by
  refine ⟨?_, fun E K => ?run⟩
  case run =>
    simp only [cc0_absmax_decode_eq_skeleton]; unfold cc0_absmax_decode_skel
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

/-! ## The pipeline's proof data -/

/-- The output window (3): of what the kernel leaves in its block, lanes 112 to 127 are never stored, so that only the stored lanes are named. -/
def forgets0 : Fin cfg0.W → Bool := fun w => w.val == 3

/-- The pieces that the body stores at point `t`. -/
def pieces0 (c : Dev nD) (t : Fin cfg0.N) : List (View.Piece (Elt F) S4608x128 .bf16) :=
  (kernelRun0_A c (grid0.coords t) (ms0_0 t) (hs0_0 t) (ms0_1 t) (hs0_1 t) (ms0_2 t) (hs0_2 t) (ms0_3 t) (hs0_3 t) (iblk V c 0 t) (iblk V c 1 t) (iblk V c 2 t)).1

/-- The block `X` holds the pieces stored at point `t`: wherever one array `G` accounts for every piece, `X` is `G` on what the pieces cover. -/
def Stored0 (c : Dev nD) (t : Fin cfg0.N) (X : Vec F S4608x128 .bf16) : Prop :=
  ∀ G : Vec F S4608x128 .bf16, (∀ p ∈ pieces0 V c t, ∀ x, p.2 x = G (p.1.emb x)) →
    ∀ y : S4608x128.Idx, (∃ p ∈ pieces0 V c t, y ∈ p.1.set) → X y = G y

/-- What the body leaves in the output window at point `t` holds the stored pieces. -/
def Rl0 (c : Dev nD) : (w : Fin cfg0.W) → Fin cfg0.N → ((cfg0.win w).block.Idx → Elt F (cfg0.win w).elt) → Prop
  | ⟨3, _⟩, t, X => Stored0 V c t X
  | _, _, _ => True

/-- The proof data of pipeline 0 on core `c`: the arrays as the region finds them (`V`); after the body at
    point `t` each input's buffer at its block and the output's not named here (`Rl0` says what it holds); the invariant the scoped rest and the
    generator register; nothing owed; full shares. -/
def dat (c : Dev nD) : Dat τ (Elt F) Unit ℕ UU ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, h⟩ => Pipeline.Dat.unnamed (cfg := cfg0) ⟨3, h⟩ t
  Φ _ := Pipeline.ΦA (U := UU) (Val := Elt F) spec0 c
  q _ := fullShare
  owed _ := 0

/-- The proof data's arrays are the region-entry contents `V`. -/
theorem A_eq (c : Dev nD) (w : Fin cfg0.W) : (dat V c).A w = V c (Pipeline.arrRef spec0 w) := by
  dsimp only [dat]

/-- What the body leaves, window by window. -/
theorem after0_0 (c : Dev nD) (t : Fin cfg0.N) : (dat V c).after 0 t = iblk V c 0 t := by dsimp only [dat]
theorem after0_1 (c : Dev nD) (t : Fin cfg0.N) : (dat V c).after 1 t = iblk V c 1 t := by dsimp only [dat]
theorem after0_2 (c : Dev nD) (t : Fin cfg0.N) : (dat V c).after 2 t = iblk V c 2 t := by dsimp only [dat]

/-- Each input's current staging buffer holds its block at every point, fetched there or not. -/
theorem before0_0 (c : Dev nD) (t : Fin cfg0.N) (d) : (dat V c).before 0 t d = iblk V c 0 t :=
  before0_0_of V (dat V c) (A_eq V c 0) (after0_0 V c) t d
theorem before0_1 (c : Dev nD) (t : Fin cfg0.N) (d) : (dat V c).before 1 t d = iblk V c 1 t :=
  before0_1_of V (dat V c) (A_eq V c 1) (after0_1 V c) t d
theorem before0_2 (c : Dev nD) (t : Fin cfg0.N) (d) : (dat V c).before 2 t d = iblk V c 2 t :=
  before0_2_of V (dat V c) (A_eq V c 2) (after0_2 V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d))
    ∗ (∃ d, ⌜((dat V c).toRRel forgets0 (Rl0 V c)).Finds 3 t d⌝ ∗ owns (c : Thread nD τ) (ms0_3 t) fullShare d))

/-- and what it returns. -/
def bodyPost (c : Dev nD) (t : Fin cfg0.N) : sProp 𝕄 :=
  iprop((dat V c).Φ t.succ ∗ (dat V c).owesAt () t.succ
    ∗ owns (c : Thread nD τ) (ms0_0 t) fullShare ((dat V c).after 0 t)
    ∗ owns (c : Thread nD τ) (ms0_1 t) fullShare ((dat V c).after 1 t)
    ∗ owns (c : Thread nD τ) (ms0_2 t) fullShare ((dat V c).after 2 t)
    ∗ (∃ d, ⌜Stored0 V c t d⌝ ∗ owns (c : Thread nD τ) (ms0_3 t) fullShare d))

/-- The body at any point: the inputs' memrefs hold their blocks; the run applies; the invariant passes through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2]
  rw [show (dat V c).Φ t.succ = (dat V c).Φ t.castSucc from rfl,
    show (dat V c).owesAt () t.succ = (dat V c).owesAt () t.castSucc from rfl,
    after0_0, after0_1, after0_2]
  iintro ⟨HΦ, Ho, ⟨%d0, H0⟩, ⟨%d1, H1⟩, ⟨%d2, H2⟩, ⟨%d3, -, H3⟩⟩
  iapply ((kernelRun0_A c (grid0.coords t) (ms0_0 t) (hs0_0 t) (ms0_1 t) (hs0_1 t) (ms0_2 t) (hs0_2 t) (ms0_3 t) (hs0_3 t) (iblk V c 0 t) (iblk V c 1 t) (iblk V c 2 t)).2 Set.univ _)
  isplitl [H0]; · iexact H0
  isplitl [H1]; · iexact H1
  isplitl [H2]; · iexact H2
  isplitl [H3]; · iexists _; iexact H3
  iintro ⟨H0, H1, H2, ⟨%f, H3⟩⟩
  isplitl [HΦ]; · iexact HΦ
  isplitl [Ho]; · iexact Ho
  isplitl [H0]; · iexact H0
  isplitl [H1]; · iexact H1
  isplitl [H2]; · iexact H2
  iexists (ms0_3 t).view.read (Elt F) ((ms0_3 t).view.writes (Elt F) f (pieces0 V c t))
  isplitr
  · ipureintro
    exact fun G hG y hy => View.read_writes_apply_of_pieces (ms0_3 t).view f G (pieces0 V c t) hG y hy
  unfold owns
  iexists _; isplitr; swap; · iexact H3
  ipureintro; rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : Pipeline.BodyObligationRel (dat V c) (defs₀ (F := F)) Variants.none () Set.univ forgets0 (Rl0 V c) := fun t => by
  rw [bigSep_W0, bigSep_W0, defs₀_row]
  exact triple_restated (sound_body V c t) rfl .rfl fun _ => .rfl

end Cert.KernelIdeal.R0

end
-- ==== Proof.Spec.lean ====
module
public import Idealize.ShloMosaic.Lib.Pointwise
@[expose] public section
noncomputable section
namespace Nf4

open Idealize.ShloMosaic

/-- Bit test of a packed byte, as the kernel computes it: widen to 16 bits, mask, compare with zero. -/
def bit (x : BitVec 8) (k : BitVec 16) : BitVec 1 := IntOp.cmpi .ne (IntOp.andi (BitVec.setWidth 16 x) k) 0#16

/-- The NF4 value of a four-bit code given by its bits, lowest first: the sixteen table entries, rounded to bf16. -/
def nf4 (b0 b1 b2 b3 : BitVec 1) : Ideal .bf16 :=
  Scalar.select b3
    (Scalar.select b2
      (Scalar.select b1 (Scalar.select b0 1 (Ideal.ofBits .bf16 0x3F39#16))
        (Scalar.select b0 (Ideal.ofBits .bf16 0x3F10#16) (Ideal.ofBits .bf16 0x3EE2#16)))
      (Scalar.select b1 (Scalar.select b0 (Ideal.ofBits .bf16 0x3EAD#16) (Ideal.ofBits .bf16 0x3E7C#16))
        (Scalar.select b0 (Ideal.ofBits .bf16 0x3E25#16) (Ideal.ofBits .bf16 0x3DA3#16))))
    (Scalar.select b2
      (Scalar.select b1 (Scalar.select b0 0 (Ideal.ofBits .bf16 0xBDBA#16))
        (Scalar.select b0 (Ideal.ofBits .bf16 0xBE3D#16) (Ideal.ofBits .bf16 0xBE92#16)))
      (Scalar.select b1 (Scalar.select b0 (Ideal.ofBits .bf16 0xBECA#16) (Ideal.ofBits .bf16 0xBF06#16))
        (Scalar.select b0 (Ideal.ofBits .bf16 0xBF32#16) (Ideal.ofBits .bf16 0xBF80#16))))

/-- The NF4 value of the low (`h = 0`) or high (otherwise) four bits of a packed byte. -/
def nib (h : ℕ) (x : BitVec 8) : Ideal .bf16 :=
  if h = 0 then nf4 (bit x 1#16) (bit x 2#16) (bit x 4#16) (bit x 8#16)
  else nf4 (bit x 16#16) (bit x 32#16) (bit x 64#16) (bit x 128#16)

/-- The dequantised weight tile of column tile `nt`: columns 0..255 from the low four bits, 256..511 from the high
    four bits, each times the block's absmax (block `4 nt + column / 64` of its half; the high half's blocks start at 56). -/
def wTile (x1 : (⟨2, ![18432, 256]⟩ : Shape).Idx → BitVec 8) (x2 : (⟨2, ![18432, 128]⟩ : Shape).Idx → Ideal .bf16)
    (nt : ℕ) : (⟨2, ![18432, 512]⟩ : Shape).Idx → Ideal .bf16 := fun y =>
  nib ((y 1).val / 256) (x1 (ix2 (y 0) ⟨(y 1).val % 256, Nat.mod_lt _ (by decide)⟩))
    * x2 (ix2 (y 0) ⟨(56 * ((y 1).val / 256) + 4 * nt + (y 1).val % 256 / 64) % 128, Nat.mod_lt _ (by decide)⟩)

/-- The wrapped lane index of the gather at lane `l`: `l / 64` plus the base `B`, plus 128 if that is negative. -/
def gIdx (l : ℕ) (B : BitVec 32) : BitVec 32 :=
  Scalar.select (IntOp.cmpi .slt (IntOp.addi (IntOp.shrui ArithUnit.vector (BitVec.ofNat 32 l) 6#32) B) 0#32)
    (IntOp.addi (IntOp.addi (IntOp.shrui ArithUnit.vector (BitVec.ofNat 32 l) 6#32) B) 128#32)
    (IntOp.addi (IntOp.shrui ArithUnit.vector (BitVec.ofNat 32 l) 6#32) B)

/-- The base of the gather: the half's first block, four blocks per column tile, two per group of 128 columns. -/
def gBase (c0 a0 c1 : BitVec 32) : BitVec 32 := Scalar.addi (Scalar.addi c0 (Scalar.muli a0 4#32)) c1

set_option maxRecDepth 100000 in
/-- Low half, columns 0..127 of the tile. -/
theorem gIdx00 : ∀ (nt : Fin 14) (l : Fin 128), (gIdx l (gBase 0#32 (BitVec.ofNat 32 nt) 0#32)).toNat % 128 = 4 * nt.val + l.val / 64 := by
  decide +kernel

set_option maxRecDepth 100000 in
/-- Low half, columns 128..255 of the tile. -/
theorem gIdx01 : ∀ (nt : Fin 14) (l : Fin 128), (gIdx l (gBase 0#32 (BitVec.ofNat 32 nt) 2#32)).toNat % 128 = 4 * nt.val + 2 + l.val / 64 := by
  decide +kernel

set_option maxRecDepth 100000 in
/-- High half, columns 0..127 of the tile. -/
theorem gIdx10 : ∀ (nt : Fin 14) (l : Fin 128), (gIdx l (gBase 56#32 (BitVec.ofNat 32 nt) 0#32)).toNat % 128 = 56 + 4 * nt.val + l.val / 64 := by
  decide +kernel

set_option maxRecDepth 100000 in
/-- High half, columns 128..255 of the tile. -/
theorem gIdx11 : ∀ (nt : Fin 14) (l : Fin 128), (gIdx l (gBase 56#32 (BitVec.ofNat 32 nt) 2#32)).toNat % 128 = 56 + 4 * nt.val + 2 + l.val / 64 := by
  decide +kernel

/-- A coordinate of a unit-stride rectangle's embedding. -/
theorem unit_emb {s : Shape} (off size : Fin s.rank → ℕ) (inb : ∀ a, off a + size a ≤ s.size a) (x : (Rect.unit off size inb).shape.Idx)
    (a : Fin s.rank) : ((Rect.unit off size inb).emb x a).val = off a + (x a).val := by
  show off a + 1 * (x a).val = _
  omega

/-- A coordinate a load of a unit-stride rectangle reads at. -/
theorem unit_idx {s : Shape} (off size : Fin s.rank → ℕ) (inb : ∀ a, off a + size a ≤ s.size a) (x : (Rect.unit off size inb).toLoadRect.shape.Idx)
    (a : Fin s.rank) : ((Rect.unit off size inb).toLoadRect.idx x a).val = off a + (x a).val :=
  unit_emb off size inb x a

/-- A low-half product of the decoded nibble and the gathered absmax is the tile's entry. -/
theorem wTile_low (X1 : (⟨2, ![18432, 256]⟩ : Shape).Idx → BitVec 8) (X2 : (⟨2, ![18432, 128]⟩ : Shape).Idx → Ideal .bf16) (nt : ℕ)
    (y : (⟨2, ![18432, 512]⟩ : Shape).Idx) (i1 : (⟨2, ![18432, 256]⟩ : Shape).Idx) (i2 : (⟨2, ![18432, 128]⟩ : Shape).Idx)
    (hy : (y 1).val < 256) (h10 : (i1 0).val = (y 0).val) (h11 : (i1 1).val = (y 1).val) (h20 : (i2 0).val = (y 0).val)
    (h21 : (i2 1).val = 4 * nt + (y 1).val / 64) :
    nf4 (bit (X1 i1) 1#16) (bit (X1 i1) 2#16) (bit (X1 i1) 4#16) (bit (X1 i1) 8#16) * X2 i2 = wTile X1 X2 nt y := by
  have hlt : (i2 1).val < 128 := (i2 1).isLt
  have e1 : i1 = ix2 (y 0) ⟨(y 1).val % 256, Nat.mod_lt _ (by decide)⟩ := by
    funext a; apply Fin.ext
    fin_cases a
    · exact h10
    · show (i1 1).val = _; rw [h11]; exact (Nat.mod_eq_of_lt hy).symm
  have e2 : i2 = ix2 (y 0) ⟨(56 * ((y 1).val / 256) + 4 * nt + (y 1).val % 256 / 64) % 128, Nat.mod_lt _ (by decide)⟩ := by
    funext a; apply Fin.ext
    fin_cases a
    · exact h20
    · show (i2 1).val = (56 * ((y 1).val / 256) + 4 * nt + (y 1).val % 256 / 64) % 128; omega
  unfold wTile nib
  rw [if_pos (Nat.div_eq_of_lt hy), congrArg X1 e1, congrArg X2 e2]
  rfl

/-- A high-half product of the decoded nibble and the gathered absmax is the tile's entry. -/
theorem wTile_high (X1 : (⟨2, ![18432, 256]⟩ : Shape).Idx → BitVec 8) (X2 : (⟨2, ![18432, 128]⟩ : Shape).Idx → Ideal .bf16) (nt : ℕ)
    (y : (⟨2, ![18432, 512]⟩ : Shape).Idx) (i1 : (⟨2, ![18432, 256]⟩ : Shape).Idx) (i2 : (⟨2, ![18432, 128]⟩ : Shape).Idx)
    (hy : 256 ≤ (y 1).val) (h10 : (i1 0).val = (y 0).val) (h11 : (i1 1).val + 256 = (y 1).val) (h20 : (i2 0).val = (y 0).val)
    (h21 : (i2 1).val = 56 + 4 * nt + ((y 1).val - 256) / 64) :
    nf4 (bit (X1 i1) 16#16) (bit (X1 i1) 32#16) (bit (X1 i1) 64#16) (bit (X1 i1) 128#16) * X2 i2 = wTile X1 X2 nt y := by
  have hlt : (i2 1).val < 128 := (i2 1).isLt
  have hlt1 : (i1 1).val < 256 := (i1 1).isLt
  have hd : (y 1).val / 256 = 1 := by omega
  have e1 : i1 = ix2 (y 0) ⟨(y 1).val % 256, Nat.mod_lt _ (by decide)⟩ := by
    funext a; apply Fin.ext
    fin_cases a
    · exact h10
    · show (i1 1).val = (y 1).val % 256; omega
  have e2 : i2 = ix2 (y 0) ⟨(56 * ((y 1).val / 256) + 4 * nt + (y 1).val % 256 / 64) % 128, Nat.mod_lt _ (by decide)⟩ := by
    funext a; apply Fin.ext
    fin_cases a
    · exact h20
    · show (i2 1).val = (56 * ((y 1).val / 256) + 4 * nt + (y 1).val % 256 / 64) % 128; omega
  unfold wTile nib
  rw [if_neg (by omega), congrArg X1 e1, congrArg X2 e2]
  rfl

/-- Column block `nt` (256 columns) of the packed codes. -/
def colBlk (A1 : (⟨2, ![18432, 3584]⟩ : Shape).Idx → BitVec 8) (nt : ℕ) : (⟨2, ![18432, 256]⟩ : Shape).Idx → BitVec 8 :=
  fun z => A1 (ix2 (z 0) ⟨(256 * nt + (z 1).val) % 3584, Nat.mod_lt _ (by decide)⟩)

/-- Row block `mt` (256 rows) of the activations. -/
def rowBlk (A0 : (⟨2, ![8192, 18432]⟩ : Shape).Idx → Ideal .bf16) (mt : ℕ) : (⟨2, ![256, 18432]⟩ : Shape).Idx → Ideal .bf16 :=
  fun z => A0 (ix2 ⟨(256 * mt + (z 0).val) % 8192, Nat.mod_lt _ (by decide)⟩ (z 1))

/-- The dequantised weight of half `h` (0: low four bits, 1: high) at row `k`, column `j` of the half. -/
def wgt (A1 : (⟨2, ![18432, 3584]⟩ : Shape).Idx → BitVec 8) (A2 : (⟨2, ![18432, 128]⟩ : Shape).Idx → Ideal .bf16)
    (h : Fin 2) (k : Fin 18432) (j : Fin 3584) : Ideal .bf16 :=
  nib h.val (A1 (ix2 k j)) * A2 (ix2 k ⟨(56 * h.val + j.val / 64) % 128, Nat.mod_lt _ (by decide)⟩)

/-- The product of the activations with the dequantised weights of half `h`. -/
def dx (A0 : (⟨2, ![8192, 18432]⟩ : Shape).Idx → Ideal .bf16) (A1 : (⟨2, ![18432, 3584]⟩ : Shape).Idx → BitVec 8)
    (A2 : (⟨2, ![18432, 128]⟩ : Shape).Idx → Ideal .bf16) (h : Fin 2) : (⟨2, ![8192, 3584]⟩ : Shape).Idx → Ideal .bf16 :=
  fun i => ∑ k : Fin 18432, A0 (ix2 (i 0) k) * wgt A1 A2 h k (i 1)

/-- A dequantised tile, read at a row and a column of half `h`, is the dequantised weight there. -/
theorem wTile_eq_wgt (A1 : (⟨2, ![18432, 3584]⟩ : Shape).Idx → BitVec 8) (A2 : (⟨2, ![18432, 128]⟩ : Shape).Idx → Ideal .bf16)
    (h : Fin 2) (nt : ℕ) (k : Fin 18432) (q : Fin 512) (j : Fin 3584) (hq : q.val = 256 * h.val + j.val % 256) (hn : nt = j.val / 256) :
    wTile (colBlk A1 nt) A2 nt (ix2 k q) = wgt A1 A2 h k j := by
  have hj := j.isLt
  have hh := h.isLt
  have e1 : q.val / 256 = h.val := by omega
  have e2 : q.val % 256 = j.val % 256 := by omega
  show nib (q.val / 256) (A1 (ix2 k ⟨(256 * nt + q.val % 256) % 3584, _⟩)) * A2 (ix2 k ⟨(56 * (q.val / 256) + 4 * nt + q.val % 256 / 64) % 128, _⟩)
    = nib h.val (A1 (ix2 k j)) * A2 (ix2 k ⟨(56 * h.val + j.val / 64) % 128, _⟩)
  have f1 : (⟨(256 * nt + q.val % 256) % 3584, Nat.mod_lt _ (by decide)⟩ : Fin 3584) = j := Fin.ext (by
    show (256 * nt + q.val % 256) % 3584 = j.val
    rw [e2, hn, Nat.mod_eq_of_lt (by omega)]; omega)
  have f2 : (⟨(56 * (q.val / 256) + 4 * nt + q.val % 256 / 64) % 128, Nat.mod_lt _ (by decide)⟩ : Fin 128)
      = ⟨(56 * h.val + j.val / 64) % 128, Nat.mod_lt _ (by decide)⟩ := Fin.ext (by
    show (56 * (q.val / 256) + 4 * nt + q.val % 256 / 64) % 128 = (56 * h.val + j.val / 64) % 128
    rw [e2, e1]
    congr 1
    omega)
  exact congrArg₂ (· * ·) (congrArg₂ nib e1 (congrArg (fun z => A1 (ix2 k z)) f1)) (congrArg (fun z => A2 (ix2 k z)) f2)

/-- The activations flattened: row `512 b + s` is position `s` of batch entry `b`. -/
def rows (A : (⟨3, ![16, 512, 18432]⟩ : Shape).Idx → Ideal .bf16) : (⟨2, ![8192, 18432]⟩ : Shape).Idx → Ideal .bf16 :=
  fun z => A (ix3 ⟨(z 0).val / 512, Nat.div_lt_of_lt_mul (z 0).isLt⟩ ⟨(z 0).val % 512, Nat.mod_lt _ (by decide)⟩ (z 1))

/-- A bit test of the low code, as written on 32-bit words. -/
def lo32 (x : BitVec 8) (k : BitVec 32) : BitVec 1 := IntOp.cmpi .ne (IntOp.andi (IntOp.andi (BitVec.setWidth 32 x) 15#32) k) 0#32

/-- A bit test of the high code, as written on 32-bit words. -/
def hi32 (x : BitVec 8) (k : BitVec 32) : BitVec 1 := IntOp.cmpi .ne (IntOp.andi (IntOp.shrsi .host (BitVec.setWidth 32 x) 4#32) k) 0#32

/-- The low code's four bits are the byte's bits 0 to 3. -/
theorem lo32_eq (x : BitVec 8) : lo32 x 1#32 = bit x 1#16 ∧ lo32 x 2#32 = bit x 2#16 ∧ lo32 x 4#32 = bit x 4#16 ∧ lo32 x 8#32 = bit x 8#16 := by
  obtain ⟨x⟩ := x
  revert x
  decide +kernel

/-- The high code's four bits are the byte's bits 4 to 7. -/
theorem hi32_eq (x : BitVec 8) : hi32 x 1#32 = bit x 16#16 ∧ hi32 x 2#32 = bit x 32#16 ∧ hi32 x 4#32 = bit x 64#16 ∧ hi32 x 8#32 = bit x 128#16 := by
  obtain ⟨x⟩ := x
  revert x
  decide +kernel

/-- The low code's value, from its 32-bit bit tests. -/
theorem nf4_lo32 (x : BitVec 8) : nf4 (lo32 x 1#32) (lo32 x 2#32) (lo32 x 4#32) (lo32 x 8#32) = nib 0 x := by
  obtain ⟨h1, h2, h3, h4⟩ := lo32_eq x
  rw [h1, h2, h3, h4]; rfl

/-- The high code's value, from its 32-bit bit tests. -/
theorem nf4_hi32 (x : BitVec 8) : nf4 (hi32 x 1#32) (hi32 x 2#32) (hi32 x 4#32) (hi32 x 8#32) = nib 1 x := by
  obtain ⟨h1, h2, h3, h4⟩ := hi32_eq x
  rw [h1, h2, h3, h4]; rfl

end Nf4
end
-- ==== Proof.Result.lean ====
module
public import proofs.«01_k».proof.Proof.Spec
@[expose] public section
noncomputable section
namespace Nf4

open Idealize.ShloMosaic

/-- A scale code's value. -/
def q8 (x : BitVec 8) : Ideal .f32 := FloatOps.sitofp .f32 x

/-- The decoded absmax of row `r`, block `b`: the code times the scale of its group of 256 codes, plus the offset. -/
def absmax (A2 : (⟨2, ![18432, 112]⟩ : Shape).Idx → BitVec 8) (A3 : (⟨1, ![8064]⟩ : Shape).Idx → Ideal .f32) (A4 : (⟨1, ![1]⟩ : Shape).Idx → Ideal .f32)
    (r : Fin 18432) (b : Fin 112) : Ideal .f32 :=
  q8 (A2 (ix2 r b)) * A3 (ix1 ⟨(112 * r.val + b.val) / 256, by have := r.isLt; have := b.isLt; omega⟩) + A4 (ix1 0)

/-- The array of decoded absmax values, 112 of each row's 128 lanes. -/
def absArr (A2 : (⟨2, ![18432, 112]⟩ : Shape).Idx → BitVec 8) (A3 : (⟨1, ![8064]⟩ : Shape).Idx → Ideal .f32) (A4 : (⟨1, ![1]⟩ : Shape).Idx → Ideal .f32) :
    (⟨2, ![18432, 128]⟩ : Shape).Idx → Ideal .bf16 :=
  fun z => absmax A2 A3 A4 (z 0) ⟨(z 1).val % 112, Nat.mod_lt _ (by decide)⟩

/-- What the decoding leaves in one block of 4608 rows: of its window's codes, scale rows and the offset. -/
def blkDec (x0 : (⟨1, ![1]⟩ : Shape).Idx → Ideal .f32) (x1 : (⟨2, ![4608, 112]⟩ : Shape).Idx → BitVec 8) (x2 : (⟨2, ![288, 128]⟩ : Shape).Idx → Ideal .f32) :
    (⟨2, ![4608, 128]⟩ : Shape).Idx → Ideal .bf16 := fun y =>
  q8 (x1 (ix2 (y 0) ⟨(y 1).val % 112, Nat.mod_lt _ (by decide)⟩))
    * x2 (ix2 ⟨(y 0).val / 16, Nat.div_lt_of_lt_mul (y 0).isLt⟩ ⟨(((y 0).val % 16) * 112 + (y 1).val % 112) / 256, by
        have := Nat.mod_lt (y 0).val (show 0 < 16 by decide); have := Nat.mod_lt (y 1).val (show 0 < 112 by decide); omega⟩) + x0 (ix1 0)

/-- The wrapped lane index of the scales' gather at row `a` of sixteen and lane `l`: `(112 a + l) / 256`, at most 7, plus 128 if that is negative. -/
def aIdx (a l : ℕ) : BitVec 32 :=
  Scalar.select (IntOp.cmpi .slt (IntOp.minsi (IntOp.shrui ArithUnit.vector (IntOp.addi (IntOp.muli (BitVec.ofNat 32 a) 112#32) (BitVec.ofNat 32 l)) 8#32) 7#32) 0#32)
    (IntOp.addi (IntOp.minsi (IntOp.shrui ArithUnit.vector (IntOp.addi (IntOp.muli (BitVec.ofNat 32 a) 112#32) (BitVec.ofNat 32 l)) 8#32) 7#32) 128#32)
    (IntOp.minsi (IntOp.shrui ArithUnit.vector (IntOp.addi (IntOp.muli (BitVec.ofNat 32 a) 112#32) (BitVec.ofNat 32 l)) 8#32) 7#32)

set_option maxRecDepth 100000 in
/-- The gather reads the group's scale. -/
theorem aIdx_eq : ∀ (a : Fin 16) (l : Fin 112), (aIdx a l).toNat % 128 = (a.val * 112 + l.val) / 256 := by
  decide +kernel

/-- The product depends on the absmax array only at its first 112 lanes. -/
theorem dx_congr (A0 : (⟨2, ![8192, 18432]⟩ : Shape).Idx → Ideal .bf16) (A1 : (⟨2, ![18432, 3584]⟩ : Shape).Idx → BitVec 8)
    (A2 B2 : (⟨2, ![18432, 128]⟩ : Shape).Idx → Ideal .bf16) (h : Fin 2) (e : ∀ z, (z 1).val < 112 → A2 z = B2 z) :
    dx A0 A1 A2 h = dx A0 A1 B2 h := by
  funext i
  unfold dx wgt
  refine Finset.sum_congr (M := Ideal .bf16) rfl fun k _ => ?_
  refine congrArg (A0 (ix2 (i 0) k) * ·) (congrArg (nib h.val (A1 (ix2 k (i 1))) * ·) (e _ ?_))
  have h1 : (i 1).val < 3584 := (i 1).isLt
  have h2 := h.isLt
  have h3 : (i 1).val / 64 < 56 := Nat.div_lt_of_lt_mul h1
  show (56 * h.val + (i 1).val / 64) % 128 < 112
  generalize (i 1).val / 64 = d at h3
  have h4 : 56 * h.val + d < 112 := by omega
  exact lt_of_le_of_lt (Nat.mod_le _ _) h4

/-- The result: the activations times the dequantised weights, the low codes' columns first. -/
def result (A0 : (⟨3, ![16, 512, 18432]⟩ : Shape).Idx → Ideal .bf16) (A1 : (⟨2, ![18432, 3584]⟩ : Shape).Idx → BitVec 8)
    (A2 : (⟨2, ![18432, 128]⟩ : Shape).Idx → Ideal .bf16) : (⟨3, ![16, 512, 7168]⟩ : Shape).Idx → Ideal .bf16 := fun i =>
  dx (rows A0) A1 A2 ⟨(i 2).val / 3584, Nat.div_lt_of_lt_mul (i 2).isLt⟩
    (ix2 ⟨512 * (i 0).val + (i 1).val, by have h0 : (i 0).val < 16 := (i 0).isLt; have h1 : (i 1).val < 512 := (i 1).isLt; omega⟩
      ⟨(i 2).val % 3584, Nat.mod_lt _ (by decide)⟩)

end Nf4
end
-- ==== Proof.Dec.lean ====
module
public import proofs.«01_k».proof.Proof.Run0
public import proofs.«01_k».proof.Proof.Result
@[expose] public section
noncomputable section
namespace Cert.KernelIdeal.R0
open Cert.KernelIdeal Cert.KernelIdeal.Gen
open Idealize.ShloMosaic Idealize.ShloMosaic.TcCoe Idealize.ShloMosaic.Tactic
open Idealize.SL Idealize.SL.RA Idealize.SL.BI
open Idealize.SL.Sem

set_option maxHeartbeats 4000000 in
/-- Every store of one trip of the decoding loop writes the decoded values at its place. -/
theorem tripL_spec (𝒱 : Variants) (c : Dev nD) (bd : Option 𝒱.V) (i : grid0.Coords) (arg1 : Memref sig .tc .smem S1 .f32) (harg1 : arg1.IsWhole) (arg2 : Memref sig .tc .vmem S4608x112 .i8) (harg2 : arg2.IsWhole) (arg3 : Memref sig .tc .vmem S288x128 .f32) (harg3 : arg3.IsWhole) (arg4 : Memref sig .tc .vmem S4608x128 .bf16) (harg4 : arg4.IsWhole) (x0 : Vec Ideal S1 .f32) (X_arg2 : BufTy.Contents (Elt Ideal) arg2.view.ty) (X_arg3 : BufTy.Contents (Elt Ideal) arg3.view.ty) (k : Fin k0_t1_loop.trips) :
  ∀ p ∈ R0.tripL_k0_t1 𝒱 c bd i arg1 harg1 arg2 harg2 arg3 harg3 arg4 harg4 (x0 (ix1 0)) X_arg2 X_arg3 k,
    (∀ x, p.2 x = Nf4.blkDec x0 (arg2.view.read (Elt Ideal) X_arg2) (arg3.view.read (Elt Ideal) X_arg3) (p.1.emb x)) := by
  have o10 : k0_off1 k 0 = 32 * k.val := congrFun (k0_off1_eq k) 0
  have o11 : k0_off1 k 1 = 0 := congrFun (k0_off1_eq k) 1
  have o30 : k0_off3 k 0 = 32 * k.val := congrFun (k0_off3_eq k) 0
  have o31 : k0_off3 k 1 = 0 := congrFun (k0_off3_eq k) 1
  have o200 : k0_off2 k 0#32 0 = 2 * k.val + 0 := congrFun (k0_off2_eq k 0) 0
  have o201 : k0_off2 k 0#32 1 = 0 := congrFun (k0_off2_eq k 0) 1
  have o210 : k0_off2 k 1#32 0 = 2 * k.val + 1 := congrFun (k0_off2_eq k 1) 0
  have o211 : k0_off2 k 1#32 1 = 0 := congrFun (k0_off2_eq k 1) 1
  unfold R0.tripL_k0_t1 R0.trip_k0_t1
  dsimp only
  intro p hp
  obtain rfl := List.mem_singleton.mp hp
  intro x
  dsimp only
  have hx0 : (x 0).val < 32 := (x 0).isLt
  have hx1 : (x 1).val < 112 := (x 1).isLt
  simp only [R0.trip_k0_t1.sl.r, k0_pay1, k0_pay2]
  pointwise
  simp only [View.readAt_apply]
  have e0 : ((Rect.unit (s := S4608x128) (k0_off3 k) ![32, 112] (k0_off3_inb k)).emb x 0).val = 32 * k.val + (x 0).val := by rw [Nf4.unit_emb, o30]
  have e1 : ((Rect.unit (s := S4608x128) (k0_off3 k) ![32, 112] (k0_off3_inb k)).emb x 1).val = (x 1).val := by rw [Nf4.unit_emb, o31, Nat.zero_add]
  have e2 : ∀ a, (32 * k.val + (x 0).val) % 16 = a → (((Rect.unit (s := S4608x128) (k0_off3 k) ![32, 112] (k0_off3_inb k)).emb x 0).val % 16 * 112 + ((Rect.unit (s := S4608x128) (k0_off3 k) ![32, 112] (k0_off3_inb k)).emb x 1).val % 112) / 256 = (a * 112 + (x 1).val) / 256 := by
    intro a ha
    rw [e0, e1, ha, Nat.mod_eq_of_lt hx1]
  have e3 : ((Rect.unit (s := S4608x128) (k0_off3 k) ![32, 112] (k0_off3_inb k)).emb x 0).val / 16 = (32 * k.val + (x 0).val) / 16 := by
    rw [e0]
  have e4 : ((Rect.unit (s := S4608x128) (k0_off3 k) ![32, 112] (k0_off3_inb k)).emb x 1).val % 112 = (x 1).val := by
    rw [e1, Nat.mod_eq_of_lt hx1]
  unfold Nf4.blkDec Nf4.q8
  refine congrArg (· + x0 (ix1 0)) (congrArg₂ (· * ·) (congrArg (fun z => FloatOps.sitofp FTy.f32 (View.read (Elt Ideal) arg2.view X_arg2 z)) ?_) ?_)
  · funext a
    apply Fin.ext
    match a with
    | ⟨0, _⟩ => exact ((Nf4.unit_idx (s := S4608x112) (k0_off1 k) ![32, 112] (k0_off1_inb k) _ 0).trans (congrArg (· + (x 0).val) o10)).trans e0.symm
    | ⟨1, _⟩ => exact (((Nf4.unit_idx (s := S4608x112) (k0_off1 k) ![32, 112] (k0_off1_inb k) _ 1).trans (congrArg (· + (x 1).val) o11)).trans (Nat.zero_add _)).trans e4.symm
  · split
    · next h =>
      refine congrArg (View.read (Elt Ideal) arg3.view X_arg3) ?_
      funext a
      apply Fin.ext
      match a with
      | ⟨0, _⟩ =>
        refine (Nf4.unit_idx (s := S288x128) (k0_off2 k 0#32) ![1, 128] (k0_off2_inb k 0) _ 0).trans ?_
        refine (congrArg (· + _) o200).trans ?_
        refine Eq.trans ?_ e3.symm
        show 2 * k.val + 0 + 0 = (32 * k.val + (x 0).val) / 16
        omega
      | ⟨1, _⟩ =>
        refine (Nf4.unit_idx (s := S288x128) (k0_off2 k 0#32) ![1, 128] (k0_off2_inb k 0) _ 1).trans ?_
        refine ((congrArg (· + _) o201).trans (Nat.zero_add _)).trans ?_
        refine Eq.trans ?_ (e2 ((x 0).val) (by omega)).symm
        exact Nf4.aIdx_eq ⟨(x 0).val, h⟩ ⟨(x 1).val, hx1⟩
    · next h =>
      refine congrArg (View.read (Elt Ideal) arg3.view X_arg3) ?_
      funext a
      apply Fin.ext
      match a with
      | ⟨0, _⟩ =>
        refine (Nf4.unit_idx (s := S288x128) (k0_off2 k 1#32) ![1, 128] (k0_off2_inb k 1) _ 0).trans ?_
        refine (congrArg (· + _) o210).trans ?_
        refine Eq.trans ?_ e3.symm
        show 2 * k.val + 1 + 0 = (32 * k.val + (x 0).val) / 16
        omega
      | ⟨1, _⟩ =>
        refine (Nf4.unit_idx (s := S288x128) (k0_off2 k 1#32) ![1, 128] (k0_off2_inb k 1) _ 1).trans ?_
        refine ((congrArg (· + _) o211).trans (Nat.zero_add _)).trans ?_
        refine Eq.trans ?_ (e2 ((x 0).val - 16) (by omega)).symm
        exact Nf4.aIdx_eq ⟨(x 0).val - 16, by omega⟩ ⟨(x 1).val, hx1⟩

/-- Trip `k` stores every row of its thirty-two, at the first 112 lanes. -/
theorem tripL_cov (𝒱 : Variants) (c : Dev nD) (bd : Option 𝒱.V) (i : grid0.Coords) (arg1 : Memref sig .tc .smem S1 .f32) (harg1 : arg1.IsWhole) (arg2 : Memref sig .tc .vmem S4608x112 .i8) (harg2 : arg2.IsWhole) (arg3 : Memref sig .tc .vmem S288x128 .f32) (harg3 : arg3.IsWhole) (arg4 : Memref sig .tc .vmem S4608x128 .bf16) (harg4 : arg4.IsWhole) (v : Elt Ideal .f32) (X_arg2 : BufTy.Contents (Elt Ideal) arg2.view.ty) (X_arg3 : BufTy.Contents (Elt Ideal) arg3.view.ty) (k : Fin k0_t1_loop.trips)
    (y : S4608x128.Idx) (h0 : (y 0).val / 32 = k.val) (h1 : (y 1).val < 112) :
    ∃ p ∈ R0.tripL_k0_t1 𝒱 c bd i arg1 harg1 arg2 harg2 arg3 harg3 arg4 harg4 v X_arg2 X_arg3 k, y ∈ p.1.set := by
  have o30 : k0_off3 k 0 = 32 * k.val := congrFun (k0_off3_eq k) 0
  have o31 : k0_off3 k 1 = 0 := congrFun (k0_off3_eq k) 1
  unfold R0.tripL_k0_t1 R0.trip_k0_t1
  dsimp only
  refine ⟨_, List.mem_singleton.mpr rfl, ?_⟩
  dsimp only
  rw [Rect.mem_set_unit]
  intro a
  match a with
  | ⟨0, _⟩ => show k0_off3 k 0 ≤ (y 0).val ∧ (y 0).val < k0_off3 k 0 + 32; rw [o30]; omega
  | ⟨1, _⟩ => show k0_off3 k 1 ≤ (y 1).val ∧ (y 1).val < k0_off3 k 1 + 112; rw [o31]; omega

/-- Every store of the first `n` trips writes the decoded values at its place. -/
theorem pb_spec (𝒱 : Variants) (bd : Option 𝒱.V) (c : Dev nD) (i : grid0.Coords) (arg1 : Memref sig .tc .smem S1 .f32) (harg1 : arg1.IsWhole) (arg2 : Memref sig .tc .vmem S4608x112 .i8) (harg2 : arg2.IsWhole) (arg3 : Memref sig .tc .vmem S288x128 .f32) (harg3 : arg3.IsWhole) (arg4 : Memref sig .tc .vmem S4608x128 .bf16) (harg4 : arg4.IsWhole) (x0 : Vec Ideal S1 .f32) (X_arg2 : BufTy.Contents (Elt Ideal) arg2.view.ty) (X_arg3 : BufTy.Contents (Elt Ideal) arg3.view.ty) :
    ∀ n, n ≤ k0_t1_loop.trips → ∀ p ∈ R0.pb_k0_t1 𝒱 c bd i arg1 harg1 arg2 harg2 arg3 harg3 arg4 harg4 (x0 (ix1 0)) X_arg2 X_arg3 n,
      ∀ x, p.2 x = Nf4.blkDec x0 (arg2.view.read (Elt Ideal) X_arg2) (arg3.view.read (Elt Ideal) X_arg3) (p.1.emb x) := by
  intro n
  induction n with
  | zero => intro _ p hp; exact absurd hp (by rw [R0.pb_k0_t1.eq_1]; exact List.not_mem_nil)
  | succ n ih =>
    intro hn p hp
    have e := R0.pb_k0_t1_succ (F := Ideal) 𝒱 c bd i arg1 harg1 arg2 harg2 arg3 harg3 arg4 harg4 (x0 (ix1 0)) X_arg2 X_arg3 ⟨n, hn⟩
    rw [e] at hp
    rcases List.mem_append.mp hp with h | h
    · exact tripL_spec 𝒱 c bd i arg1 harg1 arg2 harg2 arg3 harg3 arg4 harg4 x0 X_arg2 X_arg3 ⟨n, hn⟩ p h
    · exact ih (Nat.le_of_succ_le hn) p h

/-- The first `n` trips store the first `32 n` rows, at the first 112 lanes. -/
theorem pb_cov (𝒱 : Variants) (bd : Option 𝒱.V) (c : Dev nD) (i : grid0.Coords) (arg1 : Memref sig .tc .smem S1 .f32) (harg1 : arg1.IsWhole) (arg2 : Memref sig .tc .vmem S4608x112 .i8) (harg2 : arg2.IsWhole) (arg3 : Memref sig .tc .vmem S288x128 .f32) (harg3 : arg3.IsWhole) (arg4 : Memref sig .tc .vmem S4608x128 .bf16) (harg4 : arg4.IsWhole) (v : Elt Ideal .f32) (X_arg2 : BufTy.Contents (Elt Ideal) arg2.view.ty) (X_arg3 : BufTy.Contents (Elt Ideal) arg3.view.ty) (y : S4608x128.Idx) (h1 : (y 1).val < 112) :
    ∀ n, n ≤ k0_t1_loop.trips → (y 0).val < 32 * n → ∃ p ∈ R0.pb_k0_t1 𝒱 c bd i arg1 harg1 arg2 harg2 arg3 harg3 arg4 harg4 v X_arg2 X_arg3 n, y ∈ p.1.set := by
  intro n
  induction n with
  | zero => intro _ h; omega
  | succ n ih =>
    intro hn hy
    have e := R0.pb_k0_t1_succ (F := Ideal) 𝒱 c bd i arg1 harg1 arg2 harg2 arg3 harg3 arg4 harg4 v X_arg2 X_arg3 ⟨n, hn⟩
    rw [e]
    by_cases hc : (y 0).val < 32 * n
    · obtain ⟨p, hp, h⟩ := ih (Nat.le_of_succ_le hn) hc
      exact ⟨p, List.mem_append_right _ hp, h⟩
    · obtain ⟨p, hp, h⟩ := tripL_cov 𝒱 c bd i arg1 harg1 arg2 harg2 arg3 harg3 arg4 harg4 v X_arg2 X_arg3 ⟨n, hn⟩ y (by show (y 0).val / 32 = n; omega) h1
      exact ⟨p, List.mem_append_left _ hp, h⟩

/-- The pieces that the body stores are those of all the trips. -/
theorem run_pieces (c : Dev nD) (i : grid0.Coords) (arg1 : Memref sig .tc .smem S1 .f32) (harg1 : arg1.IsWhole) (arg2 : Memref sig .tc .vmem S4608x112 .i8) (harg2 : arg2.IsWhole) (arg3 : Memref sig .tc .vmem S288x128 .f32) (harg3 : arg3.IsWhole) (arg4 : Memref sig .tc .vmem S4608x128 .bf16) (harg4 : arg4.IsWhole) (x0 : Vec Ideal S1 .f32) (x1 : Vec Ideal S4608x112 .i8) (x2 : Vec Ideal S288x128 .f32) :
    (kernelRun0_A c i arg1 harg1 arg2 harg2 arg3 harg3 arg4 harg4 x0 x1 x2).1 = R0.pb_k0_t1 Variants.none c none i arg1 harg1 arg2 harg2 arg3 harg3 arg4 harg4 (x0 (ix1 0)) (harg2.unread x1) (harg3.unread x2) k0_t1_loop.trips := by
  unfold kernelRun0_A
  dsimp only
  have e0 : kernelRun0_A.sl.r c arg1 harg1 x0 = x0 (ix1 0) := by
    unfold kernelRun0_A.sl.r
    rw [View.readAt_apply, harg1.read_unread]
    refine congrArg x0 (funext fun a => ?_)
    match a with
    | ⟨0, _⟩ => exact Subsingleton.elim (α := Fin 1) _ _
  rw [e0]

end Cert.KernelIdeal.R0
end
-- ==== Proof.Abs.lean ====
module
public import proofs.«01_k».proof.Proof.Dec
public import Idealize.ShloMosaic.Lib.Pipeline.ArrRel
@[expose] public section
noncomputable section
namespace Cert.KernelIdeal.R0
open Cert.KernelIdeal Cert.KernelIdeal.Gen
open Idealize.ShloMosaic Idealize.ShloMosaic.TcCoe
open Idealize.ShloMosaic.Pipeline (Dat RDat)

/-- Where the windows are at each point, and that every point writes its output block back. -/
theorem idx0 : ∀ t : Fin cfg0.N, win0_0.index t 0 = 0 := (by decide +kernel : ∀ t : Fin grid0.N, _)
theorem idx1 : ∀ t : Fin cfg0.N, win0_1.index t 0 = t.val ∧ win0_1.index t 1 = 0 := (by decide +kernel : ∀ t : Fin grid0.N, _)
theorem idx2 : ∀ t : Fin cfg0.N, win0_2.index t 0 = t.val ∧ win0_2.index t 1 = 0 := (by decide +kernel : ∀ t : Fin grid0.N, _)
theorem idx3 : ∀ t : Fin cfg0.N, win0_3.index t 0 = t.val ∧ win0_3.index t 1 = 0 ∧ win0_3.flush t = true := (by decide +kernel : ∀ t : Fin grid0.N, _)

variable (V : (c : Dev nD) → (b : Ref sig .tc) → Buf (Elt Ideal) ((c : Thread nD τ).loc b))

/-- The offset's block is the whole array. -/
theorem iblk0_apply (c : Dev nD) (t : Fin cfg0.N) : (iblk V c 0 t : Vec Ideal S1 .f32) (ix1 0) = V c main_arg4 (ix1 0) := by
  unfold iblk
  rw [View.read_apply]
  show V c main_arg4 _ = V c main_arg4 _
  refine congrArg (V c main_arg4) (funext fun a => ?_)
  match a with
  | ⟨0, _⟩ => exact Subsingleton.elim (α := Fin 1) _ _

/-- The codes' block of a point. -/
theorem iblk1_apply (c : Dev nD) (t : Fin cfg0.N) (j : S4608x112.Idx) (z : S18432x112.Idx) (h0 : (z 0).val = 4608 * t.val + (j 0).val) (h1 : (z 1).val = (j 1).val) :
    (iblk V c 1 t : Vec Ideal S4608x112 .i8) j = V c main_arg2 z := by
  unfold iblk
  rw [View.read_apply]
  show V c main_arg2 _ = V c main_arg2 _
  refine congrArg (V c main_arg2) (funext fun a => Fin.ext ?_)
  match a with
  | ⟨0, _⟩ => show win0_1.index t 0 * 4608 + 1 * (j 0).val = (z 0).val; rw [(idx1 t).1]; omega
  | ⟨1, _⟩ => show win0_1.index t 1 * 112 + 1 * (j 1).val = (z 1).val; rw [(idx1 t).2]; omega

/-- The scale rows' block of a point. -/
theorem iblk2_apply (c : Dev nD) (t : Fin cfg0.N) (j : S288x128.Idx) (z : S1152x128.Idx) (h0 : (z 0).val = 288 * t.val + (j 0).val) (h1 : (z 1).val = (j 1).val) :
    (iblk V c 2 t : Vec Ideal S288x128 .f32) j = V c main_v1 z := by
  unfold iblk
  rw [View.read_apply]
  show V c main_v1 _ = V c main_v1 _
  refine congrArg (V c main_v1) (funext fun a => Fin.ext ?_)
  match a with
  | ⟨0, _⟩ => show win0_2.index t 0 * 288 + 1 * (j 0).val = (z 0).val; rw [(idx2 t).1]; omega
  | ⟨1, _⟩ => show win0_2.index t 1 * 128 + 1 * (j 1).val = (z 1).val; rw [(idx2 t).2]; omega

/-- What the body leaves at a point's stored lanes. -/
theorem stored_eq (c : Dev nD) (t : Fin cfg0.N) (X : Vec Ideal S4608x128 .bf16) (h : Stored0 V c t X) (y : S4608x128.Idx) (hy : (y 1).val < 112) :
    X y = Nf4.blkDec (iblk V c 0 t) (iblk V c 1 t) (iblk V c 2 t) y := by
  have hy0 : (y 0).val < 4608 := (y 0).isLt
  have e := run_pieces c (grid0.coords t) (ms0_0 t) (hs0_0 t) (ms0_1 t) (hs0_1 t) (ms0_2 t) (hs0_2 t) (ms0_3 t) (hs0_3 t) (iblk V c 0 t) (iblk V c 1 t) (iblk V c 2 t)
  refine h _ (fun p hp x => ?_) y ?_
  · unfold pieces0 at hp
    rw [e] at hp
    refine (pb_spec Variants.none none c (grid0.coords t) (ms0_0 t) (hs0_0 t) (ms0_1 t) (hs0_1 t) (ms0_2 t) (hs0_2 t) (ms0_3 t) (hs0_3 t) (iblk V c 0 t) _ _ _ le_rfl p hp x).trans ?_
    rw [(hs0_1 t).read_unread, (hs0_2 t).read_unread]
  · unfold pieces0
    rw [e]
    exact pb_cov Variants.none none c (grid0.coords t) (ms0_0 t) (hs0_0 t) (ms0_1 t) (hs0_1 t) (ms0_2 t) (hs0_2 t) (ms0_3 t) (hs0_3 t) _ _ _ y hy k0_t1_loop.trips le_rfl
      (lt_of_lt_of_eq hy0 (by decide +kernel))

/-- An index of the output array is in a point's block iff each coordinate is in the block's range on its axis. -/
theorem mem_blk3 (t : Fin cfg0.N) (i : S18432x128.Idx) :
    i ∈ ((cfg0.win 3).blk t).view.set ↔ ∀ a : Fin 2, win0_3.index t a * S4608x128.size a ≤ (i a).val ∧ (i a).val < win0_3.index t a * S4608x128.size a + S4608x128.size a := by
  show i ∈ ((View.whole main_v2).slice (win0_3.rect t)).set ↔ _
  rw [View.set_slice_whole, Rect.mem_set_unit]
  exact Iff.rfl

/-- The point that writes an index of the output array. -/
def ptOf (z : S18432x128.Idx) : Fin cfg0.N := ⟨(z 0).val / 4608, lt_of_lt_of_eq (Nat.div_lt_of_lt_mul (z 0).isLt) N_0.symm⟩
/-- Its place in the point's block. -/
def locOf (z : S18432x128.Idx) : S4608x128.Idx := ix2 ⟨(z 0).val % 4608, Nat.mod_lt _ (by decide)⟩ (z 1)

/-- The output array, of what the body leaves in each block. -/
theorem arr_of (c : Dev nD) (d : Dat τ (Elt Ideal) Unit ℕ UU ℕ cfg0 c) (X : Fin cfg0.N → Vec Ideal S4608x128 .bf16) (hX : ∀ t, d.after 3 t = X t) :
    d.arrAt 3 cfg0.N = (fun z => X (ptOf z) (locOf z) : S18432x128.Idx → Ideal .bf16) := by
  refine d.arrAt_eq_of_cover 3 _ (fun t hf => ?_) (fun i => ?_)
  · show (cfg0.win 3).cut (grid0.coords t) (d.after 3 t) = _
    rw [hX]
    have ht : t.val < 4 := lt_of_lt_of_eq t.isLt N_0
    funext y
    have hy0 : (y 0).val < 4608 := (y 0).isLt
    have hb0 : (((cfg0.win 3).blk t).view.emb y 0).val = win0_3.index t (0 : Fin 2) * 4608 + 1 * (y 0).val := rfl
    have hb1 : (((cfg0.win 3).blk t).view.emb y 1).val = win0_3.index t (1 : Fin 2) * 128 + 1 * (y 1).val := rfl
    have e0 := (idx3 t).1
    have e1 := (idx3 t).2.1
    show X t ((cfg0.win 3).xinj (grid0.coords t) y) = X (ptOf (((cfg0.win 3).blk t).view.emb y)) (locOf (((cfg0.win 3).blk t).view.emb y))
    have et : ptOf (((cfg0.win 3).blk t).view.emb y) = t := Fin.ext (by
      show (((cfg0.win 3).blk t).view.emb y 0).val / 4608 = t.val
      rw [hb0, e0]; omega)
    rw [et]
    refine congrArg (X t) (funext fun a => Fin.ext ?_)
    match a with
    | ⟨0, _⟩ => show (y 0).val = (((cfg0.win 3).blk t).view.emb y 0).val % 4608; rw [hb0, e0]; omega
    | ⟨1, _⟩ => show (y 1).val = (((cfg0.win 3).blk t).view.emb y 1).val; rw [hb1, e1]; omega
  · have hi0 : (i 0).val < 18432 := (i 0).isLt
    have hi1 : (i 1).val < 128 := (i 1).isLt
    obtain ⟨e0, e1, e2⟩ := idx3 (ptOf i)
    refine ⟨ptOf i, e2, (mem_blk3 _ i).mpr fun a => ?_⟩
    have ep : (ptOf i).val = (i 0).val / 4608 := rfl
    match a with
    | ⟨0, _⟩ => show win0_3.index _ (0 : Fin 2) * 4608 ≤ (i 0).val ∧ (i 0).val < win0_3.index _ (0 : Fin 2) * 4608 + 4608; rw [e0]; omega
    | ⟨1, _⟩ => show win0_3.index _ (1 : Fin 2) * 128 ≤ (i 1).val ∧ (i 1).val < win0_3.index _ (1 : Fin 2) * 128 + 128; rw [e1]; omega

/-- What the region leaves in its array's first 112 lanes: the decoded values. -/
theorem left_eq (c : Dev nD) (x : S18432x128.Idx → Ideal .bf16) (h : ((dat V c).toRRel forgets0 (Rl0 V c)).ArrAt 3 cfg0.N x) (z : S18432x128.Idx) (hz : (z 1).val < 112) :
    x z = Nf4.blkDec (iblk V c 0 (ptOf z)) (iblk V c 1 (ptOf z)) (iblk V c 2 (ptOf z)) (locOf z) := by
  obtain ⟨X, hX, hA⟩ := RDat.ArrAt.exists_exact h
  have e := hA (Function.update (fun _ _ _ => Classical.arbitrary _) 3 X) (fun u _ _ => congrFun (Function.update_self ..) u)
  rw [e, arr_of c _ X (fun t => by rw [RDat.withAfter_after, Function.update_self])]
  exact stored_eq V c (ptOf z) (X (ptOf z)) ((dat V c).toRRel_leaves (w := (3 : Fin cfg0.W)) rfl (hX (ptOf z) (ptOf z).isLt (idx3 (ptOf z)).2.2)) (locOf z) hz

end Cert.KernelIdeal.R0
end
-- ==== Proof.Run1.lean ====
module

public import proofs.«01_k».proof.Proof.Base
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit

@[expose] public section

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ### `k1_t1_loop`: the generated invariant (classifier: affine) -/

/-- One trip's resources: what the region reads (arg3, arg4) at its contents, what it writes (arg7)
   at any. -/
abbrev Trip_k1_t1 (c : Dev nD) (arg3 : Memref sig .tc .vmem S18432x256 .i8) (arg4 : Memref sig .tc .vmem S18432x128 .bf16) (arg7 : Memref sig .tc .vmem S18432x512 .bf16) (X_arg3 : BufTy.Contents (Elt F) arg3.view.ty) (X_arg4 : BufTy.Contents (Elt F) arg4.view.ty) (f_arg7 : BufTy.Contents (Elt F) arg7.view.ty) : sProp 𝕄 :=
  iprop((arg3.view.loc (c : Thread nD τ) ↦[arg3.view.set]{fullShare} X_arg3) ∗ (arg4.view.loc (c : Thread nD τ) ↦[arg4.view.set]{fullShare} X_arg4) ∗ (arg7.view.loc (c : Thread nD τ) ↦[arg7.view.set]{fullShare} f_arg7))

/-- ONE TRIP of `k1_t1_loop` at a symbolic `k`, run by `sl_exec` (its rectangles' offsets closed
   forms of `k`, their geometry linear arithmetic): the pieces it writes into arg7 are the run's own
   finds — the witnesses `sl_close` assigns handing the buffers to the continuation.
   `@[irreducible]`: cited, never unfolded. -/
@[irreducible] def trip_k1_t1 (𝒱 : Variants) (c : Dev nD) (bd : Option 𝒱.V) (i : grid1.Coords) (arg2 : Memref sig .tc .vmem S256x18432 .bf16) (harg2 : arg2.IsWhole) (arg3 : Memref sig .tc .vmem S18432x256 .i8) (harg3 : arg3.IsWhole) (arg4 : Memref sig .tc .vmem S18432x128 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S18432x512 .bf16) (harg7 : arg7.IsWhole) (arg0 : BitVec 32) (k1_h1 : k1_cond1 i = 1#1) (X_arg3 : BufTy.Contents (Elt F) arg3.view.ty) (X_arg4 : BufTy.Contents (Elt F) arg4.view.ty) (k : Fin k1_t1_loop.trips) :
    { L_arg7 : List (View.Piece (Elt F) S18432x512 .bf16) // ∀ (E : Set ℕ) (f_arg7 : BufTy.Contents (Elt F) arg7.view.ty),
      Trip_k1_t1 (F := F) c arg3 arg4 arg7 X_arg3 X_arg4 f_arg7
      ⊢ wp frame (wpE (defs₀ (F := F)) 𝒱 (c : Thread nD τ) bd) E (k1_t1_body (F := F) i arg2 harg2 arg3 harg3 arg4 harg4 arg5 harg5 arg6 harg6 arg7 harg7 arg0 k1_h1 k PUnit.unit)
          (fun _ => Trip_k1_t1 (F := F) c arg3 arg4 arg7 X_arg3 X_arg4 (arg7.view.writes (Elt F) f_arg7 L_arg7)) } := by
  have hk : k.val < 576 := Nat.lt_of_lt_of_le k.isLt k1_t1_abs.2.1
  refine ⟨?_, fun E f_arg7 => ?run⟩
  case run =>
    unfold k1_t1_body
    iintro ⟨HR_arg3, HR_arg4, HW_arg7⟩
    sl_exec
    sl_step
    sl_close

/-- The trip's piece lists (plain projections of `trip_…`, for the recursion below to cite without
   its proof). -/
abbrev tripL_k1_t1 (𝒱 : Variants) (c : Dev nD) (bd : Option 𝒱.V) (i : grid1.Coords) (arg2 : Memref sig .tc .vmem S256x18432 .bf16) (harg2 : arg2.IsWhole) (arg3 : Memref sig .tc .vmem S18432x256 .i8) (harg3 : arg3.IsWhole) (arg4 : Memref sig .tc .vmem S18432x128 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S18432x512 .bf16) (harg7 : arg7.IsWhole) (arg0 : BitVec 32) (k1_h1 : k1_cond1 i = 1#1) (X_arg3 : BufTy.Contents (Elt F) arg3.view.ty) (X_arg4 : BufTy.Contents (Elt F) arg4.view.ty) (k : Fin k1_t1_loop.trips) : List (View.Piece (Elt F) S18432x512 .bf16) :=
  (trip_k1_t1 (F := F) 𝒱 c bd i arg2 harg2 arg3 harg3 arg4 harg4 arg5 harg5 arg6 harg6 arg7 harg7 arg0 k1_h1 X_arg3 X_arg4 k).1

/-- Trip `k`'s contribution to the state the recursion `pb_k1_t1` below carries (`prev`): its pieces
   in front, per written memref; past the last trip, `prev` itself. -/
@[irreducible] def pb_k1_t1Step (𝒱 : Variants) (c : Dev nD) (bd : Option 𝒱.V) (i : grid1.Coords) (arg2 : Memref sig .tc .vmem S256x18432 .bf16) (harg2 : arg2.IsWhole) (arg3 : Memref sig .tc .vmem S18432x256 .i8) (harg3 : arg3.IsWhole) (arg4 : Memref sig .tc .vmem S18432x128 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S18432x512 .bf16) (harg7 : arg7.IsWhole) (arg0 : BitVec 32) (k1_h1 : k1_cond1 i = 1#1) (X_arg3 : BufTy.Contents (Elt F) arg3.view.ty) (X_arg4 : BufTy.Contents (Elt F) arg4.view.ty) (k : ℕ) (prev : List (View.Piece (Elt F) S18432x512 .bf16)) : List (View.Piece (Elt F) S18432x512 .bf16) :=
  if h : k < k1_t1_loop.trips then
    (tripL_k1_t1 (F := F) 𝒱 c bd i arg2 harg2 arg3 harg3 arg4 harg4 arg5 harg5 arg6 harg6 arg7 harg7 arg0 k1_h1 X_arg3 X_arg4 ⟨k, h⟩) ++ prev
  else prev

/-- The pieces of the trips before `k` (last first), per written memref. -/
def pb_k1_t1 (𝒱 : Variants) (c : Dev nD) (bd : Option 𝒱.V) (i : grid1.Coords) (arg2 : Memref sig .tc .vmem S256x18432 .bf16) (harg2 : arg2.IsWhole) (arg3 : Memref sig .tc .vmem S18432x256 .i8) (harg3 : arg3.IsWhole) (arg4 : Memref sig .tc .vmem S18432x128 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S18432x512 .bf16) (harg7 : arg7.IsWhole) (arg0 : BitVec 32) (k1_h1 : k1_cond1 i = 1#1) (X_arg3 : BufTy.Contents (Elt F) arg3.view.ty) (X_arg4 : BufTy.Contents (Elt F) arg4.view.ty) : ℕ → List (View.Piece (Elt F) S18432x512 .bf16)
  | 0 => []
  | k + 1 => pb_k1_t1Step 𝒱 c bd i arg2 harg2 arg3 harg3 arg4 harg4 arg5 harg5 arg6 harg6 arg7 harg7 arg0 k1_h1 X_arg3 X_arg4 k (pb_k1_t1 𝒱 c bd i arg2 harg2 arg3 harg3 arg4 harg4 arg5 harg5 arg6 harg6 arg7 harg7 arg0 k1_h1 X_arg3 X_arg4 k)

theorem pb_k1_t1_succ (𝒱 : Variants) (c : Dev nD) (bd : Option 𝒱.V) (i : grid1.Coords) (arg2 : Memref sig .tc .vmem S256x18432 .bf16) (harg2 : arg2.IsWhole) (arg3 : Memref sig .tc .vmem S18432x256 .i8) (harg3 : arg3.IsWhole) (arg4 : Memref sig .tc .vmem S18432x128 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S18432x512 .bf16) (harg7 : arg7.IsWhole) (arg0 : BitVec 32) (k1_h1 : k1_cond1 i = 1#1) (X_arg3 : BufTy.Contents (Elt F) arg3.view.ty) (X_arg4 : BufTy.Contents (Elt F) arg4.view.ty) (k : Fin k1_t1_loop.trips) :
    pb_k1_t1 (F := F) 𝒱 c bd i arg2 harg2 arg3 harg3 arg4 harg4 arg5 harg5 arg6 harg6 arg7 harg7 arg0 k1_h1 X_arg3 X_arg4 (k.val + 1)
      = (tripL_k1_t1 (F := F) 𝒱 c bd i arg2 harg2 arg3 harg3 arg4 harg4 arg5 harg5 arg6 harg6 arg7 harg7 arg0 k1_h1 X_arg3 X_arg4 k) ++ (pb_k1_t1 (F := F) 𝒱 c bd i arg2 harg2 arg3 harg3 arg4 harg4 arg5 harg5 arg6 harg6 arg7 harg7 arg0 k1_h1 X_arg3 X_arg4 k.val) := by
  rw [pb_k1_t1.eq_2]; unfold pb_k1_t1Step; exact dif_pos k.isLt

/-- THE INVARIANT before trip `k`: arg3, arg4 read at `X_·`; arg7 holding the pieces of the trips
   before `k` written over the contents at loop entry `G_·` (stated `∃ f, … ∗ ⌜f = …⌝`, so that a
   hypothesis of any contents matches and the equation is what is proved). -/
abbrev inv_k1_t1 (𝒱 : Variants) (c : Dev nD) (bd : Option 𝒱.V) (i : grid1.Coords) (arg2 : Memref sig .tc .vmem S256x18432 .bf16) (harg2 : arg2.IsWhole) (arg3 : Memref sig .tc .vmem S18432x256 .i8) (harg3 : arg3.IsWhole) (arg4 : Memref sig .tc .vmem S18432x128 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S18432x512 .bf16) (harg7 : arg7.IsWhole) (arg0 : BitVec 32) (k1_h1 : k1_cond1 i = 1#1) (X_arg3 : BufTy.Contents (Elt F) arg3.view.ty) (X_arg4 : BufTy.Contents (Elt F) arg4.view.ty) (G_arg7 : BufTy.Contents (Elt F) arg7.view.ty) (k : ℕ) (_u : PUnit) : sProp 𝕄 :=
  iprop((arg3.view.loc (c : Thread nD τ) ↦[arg3.view.set]{fullShare} X_arg3) ∗ (arg4.view.loc (c : Thread nD τ) ↦[arg4.view.set]{fullShare} X_arg4) ∗ (∃ f, (arg7.view.loc (c : Thread nD τ) ↦[arg7.view.set]{fullShare} f) ∗ ⌜f = arg7.view.writes (Elt F) G_arg7 (pb_k1_t1 (F := F) 𝒱 c bd i arg2 harg2 arg3 harg3 arg4 harg4 arg5 harg5 arg6 harg6 arg7 harg7 arg0 k1_h1 X_arg3 X_arg4 k)⌝))

set_option warn.classDefReducibility false in
/-- THE LOOP BY ITS INVARIANT — generated (`@[sl_loop]`: `sl_exec` finds it meeting `k1_t1_loop`,
   fixing `X_· G_·` against the context; after the loop each written memref holds `writes G (pb …
   trips)`). -/
@[sl_loop] def loopInv_k1_t1 (𝒱 : Variants) (c : Dev nD) (bd : Option 𝒱.V) (E : Set ℕ) (i : grid1.Coords) (arg2 : Memref sig .tc .vmem S256x18432 .bf16) (harg2 : arg2.IsWhole) (arg3 : Memref sig .tc .vmem S18432x256 .i8) (harg3 : arg3.IsWhole) (arg4 : Memref sig .tc .vmem S18432x128 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S18432x512 .bf16) (harg7 : arg7.IsWhole) (arg0 : BitVec 32) (k1_h1 : k1_cond1 i = 1#1) (X_arg3 : BufTy.Contents (Elt F) arg3.view.ty) (X_arg4 : BufTy.Contents (Elt F) arg4.view.ty) (G_arg7 : BufTy.Contents (Elt F) arg7.view.ty) :
    LoopInvTy_k1_t1 (F := F) Unit ℕ UU ℕ 𝒱 c bd E i arg2 harg2 arg3 harg3 arg4 harg4 arg5 harg5 arg6 harg6 arg7 harg7 arg0 k1_h1 where
  inv := inv_k1_t1 (F := F) 𝒱 c bd i arg2 harg2 arg3 harg3 arg4 harg4 arg5 harg5 arg6 harg6 arg7 harg7 arg0 k1_h1 X_arg3 X_arg4 G_arg7
  step k acc := by
    iintro ⟨HR_arg3, HR_arg4, ⟨%f_arg7, HW_arg7, %h_arg7⟩⟩
    iapply (wp_wand_r Idealize.ShloMosaic.frame (wpE (defs₀ (F := F)) 𝒱 (c : Thread nD τ) bd) E)
    isplitl [HR_arg3 HR_arg4 HW_arg7]
    · iapply ((trip_k1_t1 (F := F) 𝒱 c bd i arg2 harg2 arg3 harg3 arg4 harg4 arg5 harg5 arg6 harg6 arg7 harg7 arg0 k1_h1 X_arg3 X_arg4 k).2 E f_arg7)
      isplitl [HR_arg3]; · iexact HR_arg3
      isplitl [HR_arg4]; · iexact HR_arg4
      iexact HW_arg7
    · iintro %_ ⟨HR_arg3, HR_arg4, HW_arg7⟩
      isplitl [HR_arg3]; · iexact HR_arg3
      isplitl [HR_arg4]; · iexact HR_arg4
      rw [pb_k1_t1_succ]
      iexists _; isplitl [HW_arg7]; · iexact HW_arg7
      ipureintro; rw [h_arg7, ← View.writes_append]

variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ UU ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ UU ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ UU ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k1_h1`), from the grid coordinates (the skeleton's scalar
    chain substituted). -/
abbrev cond1_0 (i : grid1.Coords) : Prop := k1_cond1 i = 1#1
/-- It holds at the points ≡ 0 (mod 32) — by arithmetic of the point. -/
theorem hcond1_0 : ∀ t : Fin cfg1.N, cond1_0 (grid1.coords t) ↔ t.val % 32 = 0 :=
  (fun t => by
    have ht : t.val < 448 := Nat.lt_of_lt_of_eq t.isLt N_1
    have e0 : (grid1.coords t 0).val = t.val / 32 % 14 := Pipeline.Grid.coords_val t 0 (by decide) rfl
    have e1 : (grid1.coords t 1).val = t.val / 1 % 32 := Pipeline.Grid.coords_val t 1 (by decide) rfl
    simp only [cond1_0, k1_cond1, e0, e1]
    word_cmp
   : ∀ t : Fin grid1.N, cond1_0 (grid1.coords t) ↔ t.val % 32 = 0)

/-! ## The kernel body on any staging memrefs: a subtype the run finds -/

/-- One staging buffer of output window 3, through which its contents are stated (`View.read_writes_of_cover`: the
    choice does not matter). -/
abbrev VO1_3 : View sig .tc .vmem S256x256 .bf16 := (Memref.whole cc1_stg3_0 : Memref sig .tc .vmem S256x256 .bf16).view
/-- One staging buffer of output window 4, through which its contents are stated (`View.read_writes_of_cover`: the
    choice does not matter). -/
abbrev VO1_4 : View sig .tc .vmem S256x256 .bf16 := (Memref.whole cc1_stg4_0 : Memref sig .tc .vmem S256x256 .bf16).view
/-- Each window's current staging memref at point `t`, spelled as the pipeline passes it (`bodyAt1`), and its wholeness. -/
abbrev ms1_0 (t : Fin cfg1.N) : Memref sig .tc .vmem S256x18432 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S18432x256 .i8 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S18432x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x256 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256x256 .bf16 := win1_4.stage (cfg1.slots t 4)
abbrev hs1_4 (t : Fin cfg1.N) : (ms1_4 t).IsWhole := hstage1_4 ((cfg1.slots t 4).cast nbuf1_4)
/-- The scratch operands: whole scoped buffers of the kernel's own, passed beside the windows. -/
abbrev scM1_0 : Memref sig .tc .vmem S18432x512 .bf16 := Memref.whole cc1_scratch0
/-- The scratch `arg7` the kernel carries between points, as a view: what it holds is stated through it. -/
abbrev VS1_0 : View sig .tc .vmem S18432x512 .bf16 := scM1_0.view

/-- The frame kit's invariant with the scratch operands as memrefs owned at some contents (`Gen.scopedRest1_eq`,
    Lib/Memref.lean `owns_whole`): what the body obligation hands the run and takes back. -/
theorem PhiA1_eq (c : Dev nD) :
    (Pipeline.ΦA (U := UU) (Val := Elt F) spec1 c : sProp 𝕄)
      = iprop(iprop((∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scM1_0 fullShare d) ∗ (∃ f : Buf (Elt F) ((c : Thread nD τ).loc cc0_stg0_0), ((c : Thread nD τ).loc cc0_stg0_0) ↦{fullShare} f)) ∗ (∃ r, prngReg c r)) := by
  unfold Pipeline.ΦA; rw [scopedRest1_eq]; simp only [scM1_0, owns_whole]; try rfl

-- (the run's proof term is large: the definition's epilogue — `abstractNestedProofs` — walks it past the default budget)
set_option maxHeartbeats 1000000 in
/-- What the body's stores leave in each output's staging memref, as pieces (last first) IN CASE A (`scf.if` 0 taken: points 0, 32, … 416: 14 of 448), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg2 : Memref sig .tc .vmem S256x18432 .bf16) (harg2 : arg2.IsWhole) (arg3 : Memref sig .tc .vmem S18432x256 .i8) (harg3 : arg3.IsWhole) (arg4 : Memref sig .tc .vmem S18432x128 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S18432x512 .bf16) (harg7 : arg7.IsWhole) (hc0 : cond1_0 i)
    (x0 : Vec F S256x18432 .bf16) (x1 : Vec F S18432x256 .i8) (x2 : Vec F S18432x128 .bf16) :
    Σ' (L3 : List (View.Piece (Elt F) S256x256 .bf16)), Σ' (L4 : List (View.Piece (Elt F) S256x256 .bf16)), { LS0 : List (View.Piece (Elt F) S18432x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1_nf4_dx i arg2 harg2 arg3 harg3 arg4 harg4 arg5 harg5 arg6 harg6 arg7 harg7) K } := by
  refine ⟨?_, ?_, ?_, fun E K => ?run⟩
  case run =>
    simp only [cc1_nf4_dx_eq_skeleton]; unfold cc1_nf4_dx_skel
    unfold owns
    iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, Hk⟩
    obtain rfl := harg2.eq_unread hf0; obtain rfl := harg3.eq_unread hf1; obtain rfl := harg4.eq_unread hf2
    have hrd0 : ∀ (𝒱 : Variants) (c : Dev nD) (bd : Option 𝒱.V) (i : grid1.Coords) (arg2 : Memref sig .tc .vmem S256x18432 .bf16) (harg2 : arg2.IsWhole) (arg3 : Memref sig .tc .vmem S18432x256 .i8) (harg3 : arg3.IsWhole) (arg4 : Memref sig .tc .vmem S18432x128 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S18432x512 .bf16) (harg7 : arg7.IsWhole) (arg0 : BitVec 32) (k1_h1 : k1_cond1 i = 1#1) (X_arg3 : BufTy.Contents (Elt F) arg3.view.ty) (X_arg4 : BufTy.Contents (Elt F) arg4.view.ty) (hrdF : BufTy.Contents (Elt F) arg7.view.ty) (hrdB : LoadRect S18432x512), arg7.view.readAt (Elt F) hrdB (arg7.view.writes (Elt F) hrdF (pb_k1_t1 (F := F) 𝒱 c bd i arg2 harg2 arg3 harg3 arg4 harg4 arg5 harg5 arg6 harg6 arg7 harg7 arg0 k1_h1 X_arg3 X_arg4 (Scf.trips k1_t1_loop.lb k1_t1_loop.ub k1_t1_loop.st))) = arg7.view.readCov (pb_k1_t1 (F := F) 𝒱 c bd i arg2 harg2 arg3 harg3 arg4 harg4 arg5 harg5 arg6 harg6 arg7 harg7 arg0 k1_h1 X_arg3 X_arg4 (Scf.trips k1_t1_loop.lb k1_t1_loop.ub k1_t1_loop.st)) hrdB := fun 𝒱 c bd i arg2 harg2 arg3 harg3 arg4 harg4 arg5 harg5 arg6 harg6 arg7 harg7 arg0 k1_h1 X_arg3 X_arg4 hrdF hrdB => View.readAt_writes_of_cover _ hrdF _ hrdB (fun hrdJ => View.cover_of_tiledL (pb_k1_t1 (F := F) 𝒱 c bd i arg2 harg2 arg3 harg3 arg4 harg4 arg5 harg5 arg6 harg6 arg7 harg7 arg0 k1_h1 X_arg3 X_arg4 (Scf.trips k1_t1_loop.lb k1_t1_loop.ub k1_t1_loop.st)) S16x128.size (by sl_kernel_rfl) (hrdB.idx hrdJ))
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact HS0

/-- Case A's pieces for output 3 tile its block (1 store of `S256x256`, checked by the kernel's evaluation: Lib/Ring.lean `Piece.tiledL`, linear in the pieces, through a loop's `@[irreducible]` trip theorem too), so they cover it. -/
theorem cover1_A_3 (c : Dev nD) (i : grid1.Coords) (arg2 : Memref sig .tc .vmem S256x18432 .bf16) (harg2 : arg2.IsWhole) (arg3 : Memref sig .tc .vmem S18432x256 .i8) (harg3 : arg3.IsWhole) (arg4 : Memref sig .tc .vmem S18432x128 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S18432x512 .bf16) (harg7 : arg7.IsWhole) (hc0 : cond1_0 i)
    (x0 : Vec F S256x18432 .bf16) (x1 : Vec F S18432x256 .i8) (x2 : Vec F S18432x128 .bf16) (y : S256x256.Idx) :
    ∃ pc ∈ (kernelRun1_A c i arg2 harg2 arg3 harg3 arg4 harg4 arg5 harg5 arg6 harg6 arg7 harg7 hc0 x0 x1 x2).1, y ∈ pc.1.set :=
  View.cover_of_tiledL (kernelRun1_A c i arg2 harg2 arg3 harg3 arg4 harg4 arg5 harg5 arg6 harg6 arg7 harg7 hc0 x0 x1 x2).1 S256x256.size (by sl_kernel_rfl) y

/-- What case A leaves in output 3's staging buffer: its pieces read back over junk. -/
def out1_A_3 (c : Dev nD) (i : grid1.Coords) (arg2 : Memref sig .tc .vmem S256x18432 .bf16) (harg2 : arg2.IsWhole) (arg3 : Memref sig .tc .vmem S18432x256 .i8) (harg3 : arg3.IsWhole) (arg4 : Memref sig .tc .vmem S18432x128 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S18432x512 .bf16) (harg7 : arg7.IsWhole) (hc0 : cond1_0 i)
    (x0 : Vec F S256x18432 .bf16) (x1 : Vec F S18432x256 .i8) (x2 : Vec F S18432x128 .bf16) : Vec F S256x256 .bf16 :=
  VO1_3.read (Elt F) (VO1_3.writes (Elt F) VO1_3.junk (kernelRun1_A c i arg2 harg2 arg3 harg3 arg4 harg4 arg5 harg5 arg6 harg6 arg7 harg7 hc0 x0 x1 x2).1)

/-- Case A's pieces for output 4 tile its block (1 store of `S256x256`, checked by the kernel's evaluation: Lib/Ring.lean `Piece.tiledL`, linear in the pieces, through a loop's `@[irreducible]` trip theorem too), so they cover it. -/
theorem cover1_A_4 (c : Dev nD) (i : grid1.Coords) (arg2 : Memref sig .tc .vmem S256x18432 .bf16) (harg2 : arg2.IsWhole) (arg3 : Memref sig .tc .vmem S18432x256 .i8) (harg3 : arg3.IsWhole) (arg4 : Memref sig .tc .vmem S18432x128 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S18432x512 .bf16) (harg7 : arg7.IsWhole) (hc0 : cond1_0 i)
    (x0 : Vec F S256x18432 .bf16) (x1 : Vec F S18432x256 .i8) (x2 : Vec F S18432x128 .bf16) (y : S256x256.Idx) :
    ∃ pc ∈ (kernelRun1_A c i arg2 harg2 arg3 harg3 arg4 harg4 arg5 harg5 arg6 harg6 arg7 harg7 hc0 x0 x1 x2).2.1, y ∈ pc.1.set :=
  View.cover_of_tiledL (kernelRun1_A c i arg2 harg2 arg3 harg3 arg4 harg4 arg5 harg5 arg6 harg6 arg7 harg7 hc0 x0 x1 x2).2.1 S256x256.size (by sl_kernel_rfl) y

/-- What case A leaves in output 4's staging buffer: its pieces read back over junk. -/
def out1_A_4 (c : Dev nD) (i : grid1.Coords) (arg2 : Memref sig .tc .vmem S256x18432 .bf16) (harg2 : arg2.IsWhole) (arg3 : Memref sig .tc .vmem S18432x256 .i8) (harg3 : arg3.IsWhole) (arg4 : Memref sig .tc .vmem S18432x128 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S18432x512 .bf16) (harg7 : arg7.IsWhole) (hc0 : cond1_0 i)
    (x0 : Vec F S256x18432 .bf16) (x1 : Vec F S18432x256 .i8) (x2 : Vec F S18432x128 .bf16) : Vec F S256x256 .bf16 :=
  VO1_4.read (Elt F) (VO1_4.writes (Elt F) VO1_4.junk (kernelRun1_A c i arg2 harg2 arg3 harg3 arg4 harg4 arg5 harg5 arg6 harg6 arg7 harg7 hc0 x0 x1 x2).2.1)

/-- Case A's pieces for scratch `arg7`, which the kernel carries between points, cover it: 4608 pieces of `S16x128` tiling it (Lib/Ring.lean `Piece.tiledL`). -/
theorem scover1_A_0 (c : Dev nD) (i : grid1.Coords) (arg2 : Memref sig .tc .vmem S256x18432 .bf16) (harg2 : arg2.IsWhole) (arg3 : Memref sig .tc .vmem S18432x256 .i8) (harg3 : arg3.IsWhole) (arg4 : Memref sig .tc .vmem S18432x128 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S18432x512 .bf16) (harg7 : arg7.IsWhole) (hc0 : cond1_0 i)
    (x0 : Vec F S256x18432 .bf16) (x1 : Vec F S18432x256 .i8) (x2 : Vec F S18432x128 .bf16) (y : S18432x512.Idx) :
    ∃ pc ∈ (kernelRun1_A c i arg2 harg2 arg3 harg3 arg4 harg4 arg5 harg5 arg6 harg6 arg7 harg7 hc0 x0 x1 x2).2.2.1, y ∈ pc.1.set :=
  View.cover_of_tiledL (kernelRun1_A c i arg2 harg2 arg3 harg3 arg4 harg4 arg5 harg5 arg6 harg6 arg7 harg7 hc0 x0 x1 x2).2.2.1 S16x128.size (by sl_kernel_rfl) y

/-- What case A leaves in scratch `arg7`: its pieces read back over junk. -/
def sout1_A_0 (c : Dev nD) (i : grid1.Coords) (arg2 : Memref sig .tc .vmem S256x18432 .bf16) (harg2 : arg2.IsWhole) (arg3 : Memref sig .tc .vmem S18432x256 .i8) (harg3 : arg3.IsWhole) (arg4 : Memref sig .tc .vmem S18432x128 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S18432x512 .bf16) (harg7 : arg7.IsWhole) (hc0 : cond1_0 i)
    (x0 : Vec F S256x18432 .bf16) (x1 : Vec F S18432x256 .i8) (x2 : Vec F S18432x128 .bf16) : Vec F S18432x512 .bf16 :=
  VS1_0.read (Elt F) (VS1_0.writes (Elt F) VS1_0.junk (kernelRun1_A c i arg2 harg2 arg3 harg3 arg4 harg4 arg5 harg5 arg6 harg6 arg7 harg7 hc0 x0 x1 x2).2.2.1)

-- (the run's proof term is large: the definition's epilogue — `abstractNestedProofs` — walks it past the default budget)
set_option maxHeartbeats 1000000 in
/-- What the body's stores leave in each output's staging memref, as pieces (last first) IN CASE B (`scf.if` 0 not taken: points 1, 2, … 447: 434 of 448), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg2 : Memref sig .tc .vmem S256x18432 .bf16) (harg2 : arg2.IsWhole) (arg3 : Memref sig .tc .vmem S18432x256 .i8) (harg3 : arg3.IsWhole) (arg4 : Memref sig .tc .vmem S18432x128 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S18432x512 .bf16) (harg7 : arg7.IsWhole) (hc0 : ¬cond1_0 i)
    (x0 : Vec F S256x18432 .bf16) (x1 : Vec F S18432x256 .i8) (x2 : Vec F S18432x128 .bf16) (xs0 : Vec F S18432x512 .bf16) :
    Σ' (L3 : List (View.Piece (Elt F) S256x256 .bf16)), Σ' (L4 : List (View.Piece (Elt F) S256x256 .bf16)), { LS0 : List (View.Piece (Elt F) S18432x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ owns (c : Thread nD τ) arg7 fullShare xs0) -∗ K ⟨⟩))
          ⊢ wp frame (wpE (defs₀ (F := F)) Variants.none c none) E (cc1_nf4_dx i arg2 harg2 arg3 harg3 arg4 harg4 arg5 harg5 arg6 harg6 arg7 harg7) K } := by
  refine ⟨?_, ?_, [], fun E K => ?run⟩
  case run =>
    simp only [cc1_nf4_dx_eq_skeleton]; unfold cc1_nf4_dx_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg7.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; isplitr; · ipureintro; exact harg7.read_unread _
    iexact HS0

/-- Case B's pieces for output 3 tile its block (1 store of `S256x256`, checked by the kernel's evaluation: Lib/Ring.lean `Piece.tiledL`, linear in the pieces, through a loop's `@[irreducible]` trip theorem too), so they cover it. -/
theorem cover1_B_3 (c : Dev nD) (i : grid1.Coords) (arg2 : Memref sig .tc .vmem S256x18432 .bf16) (harg2 : arg2.IsWhole) (arg3 : Memref sig .tc .vmem S18432x256 .i8) (harg3 : arg3.IsWhole) (arg4 : Memref sig .tc .vmem S18432x128 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S18432x512 .bf16) (harg7 : arg7.IsWhole) (hc0 : ¬cond1_0 i)
    (x0 : Vec F S256x18432 .bf16) (x1 : Vec F S18432x256 .i8) (x2 : Vec F S18432x128 .bf16) (xs0 : Vec F S18432x512 .bf16) (y : S256x256.Idx) :
    ∃ pc ∈ (kernelRun1_B c i arg2 harg2 arg3 harg3 arg4 harg4 arg5 harg5 arg6 harg6 arg7 harg7 hc0 x0 x1 x2 xs0).1, y ∈ pc.1.set :=
  View.cover_of_tiledL (kernelRun1_B c i arg2 harg2 arg3 harg3 arg4 harg4 arg5 harg5 arg6 harg6 arg7 harg7 hc0 x0 x1 x2 xs0).1 S256x256.size (by sl_kernel_rfl) y

/-- What case B leaves in output 3's staging buffer: its pieces read back over junk. -/
def out1_B_3 (c : Dev nD) (i : grid1.Coords) (arg2 : Memref sig .tc .vmem S256x18432 .bf16) (harg2 : arg2.IsWhole) (arg3 : Memref sig .tc .vmem S18432x256 .i8) (harg3 : arg3.IsWhole) (arg4 : Memref sig .tc .vmem S18432x128 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S18432x512 .bf16) (harg7 : arg7.IsWhole) (hc0 : ¬cond1_0 i)
    (x0 : Vec F S256x18432 .bf16) (x1 : Vec F S18432x256 .i8) (x2 : Vec F S18432x128 .bf16) (xs0 : Vec F S18432x512 .bf16) : Vec F S256x256 .bf16 :=
  VO1_3.read (Elt F) (VO1_3.writes (Elt F) VO1_3.junk (kernelRun1_B c i arg2 harg2 arg3 harg3 arg4 harg4 arg5 harg5 arg6 harg6 arg7 harg7 hc0 x0 x1 x2 xs0).1)

/-- Case B's pieces for output 4 tile its block (1 store of `S256x256`, checked by the kernel's evaluation: Lib/Ring.lean `Piece.tiledL`, linear in the pieces, through a loop's `@[irreducible]` trip theorem too), so they cover it. -/
theorem cover1_B_4 (c : Dev nD) (i : grid1.Coords) (arg2 : Memref sig .tc .vmem S256x18432 .bf16) (harg2 : arg2.IsWhole) (arg3 : Memref sig .tc .vmem S18432x256 .i8) (harg3 : arg3.IsWhole) (arg4 : Memref sig .tc .vmem S18432x128 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S18432x512 .bf16) (harg7 : arg7.IsWhole) (hc0 : ¬cond1_0 i)
    (x0 : Vec F S256x18432 .bf16) (x1 : Vec F S18432x256 .i8) (x2 : Vec F S18432x128 .bf16) (xs0 : Vec F S18432x512 .bf16) (y : S256x256.Idx) :
    ∃ pc ∈ (kernelRun1_B c i arg2 harg2 arg3 harg3 arg4 harg4 arg5 harg5 arg6 harg6 arg7 harg7 hc0 x0 x1 x2 xs0).2.1, y ∈ pc.1.set :=
  View.cover_of_tiledL (kernelRun1_B c i arg2 harg2 arg3 harg3 arg4 harg4 arg5 harg5 arg6 harg6 arg7 harg7 hc0 x0 x1 x2 xs0).2.1 S256x256.size (by sl_kernel_rfl) y

/-- What case B leaves in output 4's staging buffer: its pieces read back over junk. -/
def out1_B_4 (c : Dev nD) (i : grid1.Coords) (arg2 : Memref sig .tc .vmem S256x18432 .bf16) (harg2 : arg2.IsWhole) (arg3 : Memref sig .tc .vmem S18432x256 .i8) (harg3 : arg3.IsWhole) (arg4 : Memref sig .tc .vmem S18432x128 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S18432x512 .bf16) (harg7 : arg7.IsWhole) (hc0 : ¬cond1_0 i)
    (x0 : Vec F S256x18432 .bf16) (x1 : Vec F S18432x256 .i8) (x2 : Vec F S18432x128 .bf16) (xs0 : Vec F S18432x512 .bf16) : Vec F S256x256 .bf16 :=
  VO1_4.read (Elt F) (VO1_4.writes (Elt F) VO1_4.junk (kernelRun1_B c i arg2 harg2 arg3 harg3 arg4 harg4 arg5 harg5 arg6 harg6 arg7 harg7 hc0 x0 x1 x2 xs0).2.1)

/-- Case B stores nothing into scratch `arg7`: it holds what the point before left. -/
def sout1_B_0 (c : Dev nD) (i : grid1.Coords) (arg2 : Memref sig .tc .vmem S256x18432 .bf16) (harg2 : arg2.IsWhole) (arg3 : Memref sig .tc .vmem S18432x256 .i8) (harg3 : arg3.IsWhole) (arg4 : Memref sig .tc .vmem S18432x128 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S18432x512 .bf16) (harg7 : arg7.IsWhole) (hc0 : ¬cond1_0 i)
    (x0 : Vec F S256x18432 .bf16) (x1 : Vec F S18432x256 .i8) (x2 : Vec F S18432x128 .bf16) (xs0 : Vec F S18432x512 .bf16) : Vec F S18432x512 .bf16 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before1_W_κ`). An assignment of the conditions no point meets is no case (`False.elim`). -/
def outsAt1 (c : Dev nD) : (n : ℕ) → n < cfg1.N → Vec F S256x256 .bf16 × Vec F S256x256 .bf16 × Vec F S18432x512 .bf16
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (iblk V c 0 ⟨0, hn⟩) (iblk V c 1 ⟨0, hn⟩) (iblk V c 2 ⟨0, hn⟩), out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (iblk V c 0 ⟨0, hn⟩) (iblk V c 1 ⟨0, hn⟩) (iblk V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (iblk V c 0 ⟨0, hn⟩) (iblk V c 1 ⟨0, hn⟩) (iblk V c 2 ⟨0, hn⟩))
  | n + 1, hn =>
    if h0 : (n + 1) % 32 = 0 then
      (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (iblk V c 0 ⟨n + 1, hn⟩) (iblk V c 1 ⟨n + 1, hn⟩) (iblk V c 2 ⟨n + 1, hn⟩), out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (iblk V c 0 ⟨n + 1, hn⟩) (iblk V c 1 ⟨n + 1, hn⟩) (iblk V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (iblk V c 0 ⟨n + 1, hn⟩) (iblk V c 1 ⟨n + 1, hn⟩) (iblk V c 2 ⟨n + 1, hn⟩))
    else
      (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (iblk V c 0 ⟨n + 1, hn⟩) (iblk V c 1 ⟨n + 1, hn⟩) (iblk V c 2 ⟨n + 1, hn⟩) (outsAt1 c n (Nat.lt_of_succ_lt hn)).2.2, out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (iblk V c 0 ⟨n + 1, hn⟩) (iblk V c 1 ⟨n + 1, hn⟩) (iblk V c 2 ⟨n + 1, hn⟩) (outsAt1 c n (Nat.lt_of_succ_lt hn)).2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (iblk V c 0 ⟨n + 1, hn⟩) (iblk V c 1 ⟨n + 1, hn⟩) (iblk V c 2 ⟨n + 1, hn⟩) (outsAt1 c n (Nat.lt_of_succ_lt hn)).2.2)

/-- `outsAt1` at a point of case A: that case's contents. -/
theorem outsAt1_A (c : Dev nD) (t : Fin cfg1.N) (h0 : t.val % 32 = 0) :
    outsAt1 V c t.val t.isLt = (out1_A_3 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (iblk V c 0 t) (iblk V c 1 t) (iblk V c 2 t), out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (iblk V c 0 t) (iblk V c 1 t) (iblk V c 2 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (iblk V c 0 t) (iblk V c 1 t) (iblk V c 2 t)) := by
  obtain ⟨n, hn⟩ := t
  cases n with
  | zero => exact rfl
  | succ n => exact (dif_pos h0).trans rfl

/-- `outsAt1` at a point of case B: that case's contents, over what the point before left. -/
theorem outsAt1_B (c : Dev nD) (t : Fin cfg1.N) (h0 : ¬t.val % 32 = 0) :
    outsAt1 V c t.val t.isLt = (out1_B_3 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (iblk V c 0 t) (iblk V c 1 t) (iblk V c 2 t) (outsAt1 V c (t.val - 1) (Nat.lt_of_le_of_lt (Nat.sub_le _ _) t.isLt)).2.2, out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (iblk V c 0 t) (iblk V c 1 t) (iblk V c 2 t) (outsAt1 V c (t.val - 1) (Nat.lt_of_le_of_lt (Nat.sub_le _ _) t.isLt)).2.2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (iblk V c 0 t) (iblk V c 1 t) (iblk V c 2 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt1`'s scratch components), the others at anything, and the generator register
    at some state. -/
def PhiS (c : Dev nD) : (n : ℕ) → n ≤ cfg1.N → sProp 𝕄
  | 0, _ => Pipeline.ΦA (U := UU) (Val := Elt F) spec1 c
  | n + 1, hn => iprop(iprop((∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare ((outsAt1 V c n hn).2.2) ∗ (∃ f : Buf (Elt F) ((c : Thread nD τ).loc cc0_stg0_0), ((c : Thread nD τ).loc cc0_stg0_0) ↦{fullShare} f)) ∗ (∃ r, prngReg c r))

theorem PhiS_zero (c : Dev nD) (n : ℕ) (h : n ≤ cfg1.N) (hz : n = 0) : PhiS V c n h = Pipeline.ΦA (U := UU) (Val := Elt F) spec1 c := by
  subst hz; rfl

/-- After point `n` (before point `n + 1`): the carried scratch at that point's contents. -/
theorem PhiS_succ (c : Dev nD) (n : ℕ) (hn : n < cfg1.N) :
    PhiS V c (n + 1) hn = iprop(iprop((∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare ((outsAt1 V c n hn).2.2) ∗ (∃ f : Buf (Elt F) ((c : Thread nD τ).loc cc0_stg0_0), ((c : Thread nD τ).loc cc0_stg0_0) ↦{fullShare} f)) ∗ (∃ r, prngReg c r)) := rfl

/-- Before a point that is not the first: the carried scratch at what the point before left. -/
theorem PhiS_pos (c : Dev nD) (n : ℕ) (h : n ≤ cfg1.N) (hz : n ≠ 0) :
    PhiS V c n h = iprop(iprop((∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1_0 fullShare ((outsAt1 V c (n - 1) (by omega)).2.2) ∗ (∃ f : Buf (Elt F) ((c : Thread nD τ).loc cc0_stg0_0), ((c : Thread nD τ).loc cc0_stg0_0) ↦{fullShare} f)) ∗ (∃ r, prngReg c r)) := by
  cases n with
  | zero => exact absurd rfl hz
  | succ n => rfl

/-! ## The pipeline's proof data -/

/-- The proof data of pipeline 1 on core `c`: the arrays as the region finds them (`V`); after the body at
    point `t` each input's buffer at its block and the outputs' at `outsAt1`; the invariant the class's
    (`PhiS`: the class's `ΦA` before the first point, then the scoped rest with the carried scratch at `outsAt1`'s component);
    nothing owed; full shares. -/
def dat (c : Dev nD) : Dat τ (Elt F) Unit ℕ UU ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => (outsAt1 V c t.val t.isLt).1
    | ⟨4, _⟩ => (outsAt1 V c t.val t.isLt).2.1
  Φ t := PhiS V c t.val (Nat.le_of_lt_succ t.isLt)
  q _ := fullShare
  owed _ := 0

/-- The proof data's arrays are the region-entry contents `V`: the proof data's definition projected (`dsimp`). -/
theorem A_eq (c : Dev nD) (w : Fin cfg1.W) : (dat V c).A w = V c (Pipeline.arrRef spec1 w) := by
  dsimp only [dat]

/-- The invariant at a point's start (the proof data at `t.castSucc`), restated at `t.val`. -/
theorem PhiS_castSucc (c : Dev nD) (t : Fin cfg1.N) :
    (dat V c).Φ t.castSucc = PhiS V c t.val (Nat.le_of_lt t.isLt) := by
  dsimp only [dat]; exact Pipeline.Dat.Φ_castSucc (PhiS V c) t

/-- What the body leaves, window by window (the proof data's `match` reduced by `dsimp`). -/
theorem after1_0 (c : Dev nD) (t : Fin cfg1.N) : (dat V c).after 0 t = iblk V c 0 t := by dsimp only [dat]
theorem after1_1 (c : Dev nD) (t : Fin cfg1.N) : (dat V c).after 1 t = iblk V c 1 t := by dsimp only [dat]
theorem after1_2 (c : Dev nD) (t : Fin cfg1.N) : (dat V c).after 2 t = iblk V c 2 t := by dsimp only [dat]
theorem after1_3 (c : Dev nD) (t : Fin cfg1.N) : (dat V c).after 3 t = (outsAt1 V c t.val t.isLt).1 := by dsimp only [dat]
theorem after1_4 (c : Dev nD) (t : Fin cfg1.N) : (dat V c).after 4 t = (outsAt1 V c t.val t.isLt).2.1 := by dsimp only [dat]

/-- Each input's current staging buffer holds its block at every point, fetched there or not (`beforeK_W_of`). -/
theorem before1_0 (c : Dev nD) (t : Fin cfg1.N) (d) : (dat V c).before 0 t d = iblk V c 0 t :=
  before1_0_of V (dat V c) (A_eq V c 0) (after1_0 V c) t d
theorem before1_1 (c : Dev nD) (t : Fin cfg1.N) (d) : (dat V c).before 1 t d = iblk V c 1 t :=
  before1_1_of V (dat V c) (A_eq V c 1) (after1_1 V c) t d
theorem before1_2 (c : Dev nD) (t : Fin cfg1.N) (d) : (dat V c).before 2 t d = iblk V c 2 t :=
  before1_2_of V (dat V c) (A_eq V c 2) (after1_2 V c) t d

/-! ## The body obligation, at a generic point -/

/-- What the body is called with at point `t` (Lib/Pipeline.lean `BodyObligation`'s precondition, the windows one by one), -/
def bodyPre (c : Dev nD) (t : Fin cfg1.N) : sProp 𝕄 :=
  iprop((dat V c).Φ t.castSucc ∗ (dat V c).owesAt () t.castSucc
    ∗ (∃ d, owns (c : Thread nD τ) (ms1_0 t) fullShare ((dat V c).before 0 t d))
    ∗ (∃ d, owns (c : Thread nD τ) (ms1_1 t) fullShare ((dat V c).before 1 t d))
    ∗ (∃ d, owns (c : Thread nD τ) (ms1_2 t) fullShare ((dat V c).before 2 t d))
    ∗ (∃ d, owns (c : Thread nD τ) (ms1_3 t) fullShare ((dat V c).before 3 t d))
    ∗ (∃ d, owns (c : Thread nD τ) (ms1_4 t) fullShare ((dat V c).before 4 t d)))

/-- and what it returns. -/
def bodyPost (c : Dev nD) (t : Fin cfg1.N) : sProp 𝕄 :=
  iprop((dat V c).Φ t.succ ∗ (dat V c).owesAt () t.succ
    ∗ owns (c : Thread nD τ) (ms1_0 t) fullShare ((dat V c).after 0 t)
    ∗ owns (c : Thread nD τ) (ms1_1 t) fullShare ((dat V c).after 1 t)
    ∗ owns (c : Thread nD τ) (ms1_2 t) fullShare ((dat V c).after 2 t)
    ∗ owns (c : Thread nD τ) (ms1_3 t) fullShare ((dat V c).after 3 t)
    ∗ owns (c : Thread nD τ) (ms1_4 t) fullShare ((dat V c).after 4 t))

set_option maxHeartbeats 3200000 in
/-- The body at any point: the inputs' memrefs hold their blocks (`before1_W`); the closed forms say which case the point is in (`by_cases`), an output the case reads before covering holds what the point before left (`before1_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes `D c` throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2]
  rw [show (dat V c).owesAt () t.succ = (dat V c).owesAt () t.castSucc from rfl,
    after1_0, after1_1, after1_2, after1_3, after1_4]
  rw [show (dat V c).Φ t.succ = PhiS V c (t.val + 1) t.isLt from rfl, PhiS_succ]
  have hN : t.val < 448 := lt_of_lt_of_eq t.isLt (show cfg1.N = 448 from N_1)
  by_cases h0 : t.val % 32 = 0
  · by_cases hz : t.val = 0
    · rw [PhiS_castSucc V c t, PhiS_zero V c _ _ hz, PhiA1_eq]
      rw [outsAt1_A V c t h0]
      unfold out1_A_3 out1_A_4 sout1_A_0; (try dsimp only)
      iintro ⟨⟨⟨HR0, HR1, HR2, HR3, HR4, HR5, HS0, HR7⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ ((hcond1_0 t).mpr h0) (iblk V c 0 t) (iblk V c 1 t) (iblk V c 2 t)).2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      iintro ⟨H0, H1, H2, ⟨%e3, H3⟩, ⟨%e4, H4⟩, ⟨%es0, HS0⟩⟩
      isplitl [HR0 HR1 HR2 HR3 HR4 HR5 HS0 HR7 Hg]
      · isplitl [HR0 HR1 HR2 HR3 HR4 HR5 HS0 HR7]
        · isplitl [HR0]
          · iexact HR0
          isplitl [HR1]
          · iexact HR1
          isplitl [HR2]
          · iexact HR2
          isplitl [HR3]
          · iexact HR3
          isplitl [HR4]
          · iexact HR4
          isplitl [HR5]
          · iexact HR5
          isplitl [HS0]
          · unfold owns; iexists _; isplitr
            swap; · iexact HS0
            ipureintro; exact View.read_writes_of_cover _ _ _ _ _ (scover1_A_0 c _ _ _ _ _ _ _ _ _ _ _ _ _ _ _ _ _)
          iexact HR7
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover1_A_3 c _ _ _ _ _ _ _ _ _ _ _ _ _ _ _ _ _)
      unfold owns; iexists _; isplitr
      swap; · iexact H4
      ipureintro; exact View.read_writes_of_cover _ _ _ _ _ (cover1_A_4 c _ _ _ _ _ _ _ _ _ _ _ _ _ _ _ _ _)
    · rw [PhiS_castSucc V c t, PhiS_pos V c _ _ hz]
      rw [outsAt1_A V c t h0]
      unfold out1_A_3 out1_A_4 sout1_A_0; (try dsimp only)
      iintro ⟨⟨⟨HR0, HR1, HR2, HR3, HR4, HR5, HS0, HR7⟩, Hg⟩, Ho, ⟨%d0, H0⟩, ⟨%d1, H1⟩, ⟨%d2, H2⟩, ⟨%d3, H3⟩, ⟨%d4, H4⟩⟩
      iapply ((kernelRun1_A c (grid1.coords t) _ _ _ _ _ _ _ _ _ _ _ _ ((hcond1_0 t).mpr h0) (iblk V c 0 t) (iblk V c 1 t) (iblk V c 2 t)).2.2.2 Set.univ _)
      isplitl [H0]; · iexact H0
      isplitl [H1]; · iexact H1
      isplitl [H2]; · iexact H2
      isplitl [H3]; · iexists _; iexact H3
      isplitl [H4]; · iexists _; iexact H4
      isplitl [HS0]; · iexists _; iexact HS0
      iintro ⟨H0, H1, H2, ⟨%e3, H3⟩, ⟨%e4, H4⟩, ⟨%es0, HS0⟩⟩
      isplitl [HR0 HR1 HR2 HR3 HR4 HR5 HS0 HR7 Hg]
      · isplitl [HR0 HR1 HR2 HR3 HR4 HR5 HS0 HR7]
        · isplitl [HR0]
          · iexact HR0
          isplitl [HR1]
          · iexact HR1
          isplitl [HR2]
          · iexact HR2
          isplitl [HR3]
          · iexact HR3
          isplitl [HR4]
          · iexact HR4
          isplitl [HR5]
          · iexact HR5
          isplitl [HS0]
          · unfold owns; iexists _; isplitr
            swap; · iexact HS0
            ipureintro; exact View.read_writes_of_cover _ _ _ _ _ (scover1_A_0 c _ _ _ _ _ _ _ _ _ _ _ _ _ _ _ _ _)
          iexact HR7
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover1_A_3 c _ _ _ _ _ _ _ _ _ _ _ _ _ _ _ _ _)
      unfold owns; iexists _; isplitr
      swap; · iexact H4
      ipureintro; exact View.read_writes_of_cover _ _ _ _ _ (cover1_A_4 c _ _ _ _ _ _ _ _ _ _ _ _ _ _ _ _ _)
  · by_cases hz : t.val = 0
    · exfalso; have hN : t.val < 448 := lt_of_lt_of_eq t.isLt (show cfg1.N = 448 from N_1); omega
    · rw [PhiS_castSucc V c t, PhiS_pos V c _ _ hz]
      rw [outsAt1_B V c t h0]
      unfold out1_B_3 out1_B_4 sout1_B_0; (try dsimp only)
      iintro ⟨⟨⟨HR0, HR1, HR2, HR3, HR4, HR5, HS0, HR7⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ (fun h => h0 ((hcond1_0 t).mp h)) (iblk V c 0 t) (iblk V c 1 t) (iblk V c 2 t) _).2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      iintro ⟨H0, H1, H2, ⟨%e3, H3⟩, ⟨%e4, H4⟩, HS0⟩
      isplitl [HR0 HR1 HR2 HR3 HR4 HR5 HS0 HR7 Hg]
      · isplitl [HR0 HR1 HR2 HR3 HR4 HR5 HS0 HR7]
        · isplitl [HR0]
          · iexact HR0
          isplitl [HR1]
          · iexact HR1
          isplitl [HR2]
          · iexact HR2
          isplitl [HR3]
          · iexact HR3
          isplitl [HR4]
          · iexact HR4
          isplitl [HR5]
          · iexact HR5
          isplitl [HS0]
          · iexact HS0
          iexact HR7
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover1_B_3 c _ _ _ _ _ _ _ _ _ _ _ _ _ _ _ _ _ _)
      unfold owns; iexists _; isplitr
      swap; · iexact H4
      ipureintro; exact View.read_writes_of_cover _ _ _ _ _ (cover1_B_4 c _ _ _ _ _ _ _ _ _ _ _ _ _ _ _ _ _ _)

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation (c : Dev nD) : BodyObligation (dat V c) (defs₀ (F := F)) Variants.none () Set.univ := fun t => by
  rw [bigSep_W1, bigSep_W1, defs₀_row]
  exact triple_restated (sound_body V c t) rfl .rfl fun _ => .rfl

/-- What the launch hands the region (`ΦA`) is the invariant before the first point. -/
theorem hin (c : Dev nD) : Pipeline.ΦA (U := UU) (Val := Elt F) spec1 c ⊢ (dat V c).Φ 0 := by
  rw [show (dat V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg1.N + 1)) (ht : t.val ≠ 0) : (dat V c).Φ t ⊢ Pipeline.ΦA (U := UU) (Val := Elt F) spec1 c := by
  rw [show (dat V c).Φ t = PhiS V c t.val (Nat.le_of_lt_succ t.isLt) from rfl, PhiS_pos V c _ _ ht, PhiA1_eq]
  iintro ⟨⟨HR0, HR1, HR2, HR3, HR4, HR5, HS0, HR7⟩, Hg⟩
  isplitl [HR0 HR1 HR2 HR3 HR4 HR5 HS0 HR7]
  · isplitl [HR0]
    · iexact HR0
    isplitl [HR1]
    · iexact HR1
    isplitl [HR2]
    · iexact HR2
    isplitl [HR3]
    · iexact HR3
    isplitl [HR4]
    · iexact HR4
    isplitl [HR5]
    · iexact HR5
    isplitl [HS0]
    · iexists _; iexact HS0
    iexact HR7
  iexact Hg

/-- The same after the last point. -/
theorem hout (c : Dev nD) : (dat V c).Φ (Fin.last cfg1.N) ⊢ Pipeline.ΦA (U := UU) (Val := Elt F) spec1 c :=
  Phi_out V c _ (by rw [Fin.val_last]; have : cfg1.N = 448 := N_1; omega)

end Cert.KernelIdeal.R1

end
-- ==== Proof.Trip.lean ====
module
public import proofs.«01_k».proof.Proof.Run1
public import proofs.«01_k».proof.Proof.Spec
@[expose] public section
noncomputable section
namespace Cert.KernelIdeal.R1
open Cert.KernelIdeal Cert.KernelIdeal.Gen
open Idealize.ShloMosaic Idealize.ShloMosaic.TcCoe Idealize.ShloMosaic.Tactic
open Idealize.SL Idealize.SL.RA Idealize.SL.BI
open Idealize.SL.Sem

set_option maxHeartbeats 4000000 in
/-- Every store of one trip of the decode loop writes the dequantised weight tile's values at its place. -/
theorem tripL_spec (𝒱 : Variants) (c : Dev nD) (bd : Option 𝒱.V) (i : grid1.Coords) (arg2 : Memref sig .tc .vmem S256x18432 .bf16) (harg2 : arg2.IsWhole) (arg3 : Memref sig .tc .vmem S18432x256 .i8) (harg3 : arg3.IsWhole) (arg4 : Memref sig .tc .vmem S18432x128 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S18432x512 .bf16) (harg7 : arg7.IsWhole) (nt : Fin 14) (k1_h1 : k1_cond1 i = 1#1) (X_arg3 : BufTy.Contents (Elt Ideal) arg3.view.ty) (X_arg4 : BufTy.Contents (Elt Ideal) arg4.view.ty) (k : Fin k1_t1_loop.trips) :
  ∀ p ∈ R1.tripL_k1_t1 𝒱 c bd i arg2 harg2 arg3 harg3 arg4 harg4 arg5 harg5 arg6 harg6 arg7 harg7 (BitVec.ofNat 32 nt.val) k1_h1 X_arg3 X_arg4 k, ∀ x, p.2 x = Nf4.wTile (arg3.view.read (Elt Ideal) X_arg3) (arg4.view.read (Elt Ideal) X_arg4) nt.val (p.1.emb x) := by
  have o100 : k1_off1 k 0#32 0 = 32 * k.val + 0 := congrFun (k1_off1_eq k 0) 0
  have o101 : k1_off1 k 0#32 1 = 0 := congrFun (k1_off1_eq k 0) 1
  have o110 : k1_off1 k 16#32 0 = 32 * k.val + 16 := congrFun (k1_off1_eq k 1) 0
  have o111 : k1_off1 k 16#32 1 = 0 := congrFun (k1_off1_eq k 1) 1
  have o300 : k1_off3 k 0#32 0 = 32 * k.val + 0 := congrFun (k1_off3_eq k 0) 0
  have o301 : k1_off3 k 0#32 1 = 0 := congrFun (k1_off3_eq k 0) 1
  have o310 : k1_off3 k 16#32 0 = 32 * k.val + 16 := congrFun (k1_off3_eq k 1) 0
  have o311 : k1_off3 k 16#32 1 = 0 := congrFun (k1_off3_eq k 1) 1
  have o400 : k1_off4 k 0#32 0 = 32 * k.val + 0 := congrFun (k1_off4_eq k 0) 0
  have o401 : k1_off4 k 0#32 1 = 256 := congrFun (k1_off4_eq k 0) 1
  have o410 : k1_off4 k 16#32 0 = 32 * k.val + 16 := congrFun (k1_off4_eq k 1) 0
  have o411 : k1_off4 k 16#32 1 = 256 := congrFun (k1_off4_eq k 1) 1
  have o600 : k1_off6 k 0#32 0 = 32 * k.val + 0 := congrFun (k1_off6_eq k 0) 0
  have o601 : k1_off6 k 0#32 1 = 128 := congrFun (k1_off6_eq k 0) 1
  have o610 : k1_off6 k 16#32 0 = 32 * k.val + 16 := congrFun (k1_off6_eq k 1) 0
  have o611 : k1_off6 k 16#32 1 = 128 := congrFun (k1_off6_eq k 1) 1
  have o700 : k1_off7 k 0#32 0 = 32 * k.val + 0 := congrFun (k1_off7_eq k 0) 0
  have o701 : k1_off7 k 0#32 1 = 384 := congrFun (k1_off7_eq k 0) 1
  have o710 : k1_off7 k 16#32 0 = 32 * k.val + 16 := congrFun (k1_off7_eq k 1) 0
  have o711 : k1_off7 k 16#32 1 = 384 := congrFun (k1_off7_eq k 1) 1
  have o20 : k1_off2 k 0 = 32 * k.val := congrFun (k1_off2_eq k) 0
  have o21 : k1_off2 k 1 = 0 := congrFun (k1_off2_eq k) 1
  have o50 : k1_off5 k 0 = 32 * k.val := congrFun (k1_off5_eq k) 0
  have o51 : k1_off5 k 1 = 128 := congrFun (k1_off5_eq k) 1
  unfold R1.tripL_k1_t1 R1.trip_k1_t1
  dsimp only
  simp only [List.forall_mem_cons, List.not_mem_nil, false_implies, implies_true, and_true]
  refine ⟨?_, ?_, ?_, ?_, ?_, ?_, ?_, ?_⟩
  all_goals
    intro x
    simp only [k1_pay1, k1_pay2, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104, k1_pay105, k1_pay106, k1_pay107, R1.trip_k1_t1.sl.r, R1.trip_k1_t1.sl.r_1, R1.trip_k1_t1.sl.r_2, R1.trip_k1_t1.sl.r_3, R1.trip_k1_t1.sl.r_4, R1.trip_k1_t1.sl.r_5, R1.trip_k1_t1.sl.r_6, R1.trip_k1_t1.sl.r_7, R1.trip_k1_t1.sl.r_8, R1.trip_k1_t1.sl.r_9, R1.trip_k1_t1.sl.r_10, R1.trip_k1_t1.sl.r_11, R1.trip_k1_t1.sl.r_12, R1.trip_k1_t1.sl.r_13, R1.trip_k1_t1.sl.r_14, R1.trip_k1_t1.sl.r_15, R1.trip_k1_t1.sl.r_16, R1.trip_k1_t1.sl.r_17, R1.trip_k1_t1.sl.r_18, R1.trip_k1_t1.sl.r_19, R1.trip_k1_t1.sl.r_20, R1.trip_k1_t1.sl.r_21, R1.trip_k1_t1.sl.r_22, R1.trip_k1_t1.sl.r_23, R1.trip_k1_t1.sl.r_24, R1.trip_k1_t1.sl.r_25, R1.trip_k1_t1.sl.r_26, R1.trip_k1_t1.sl.r_27, R1.trip_k1_t1.sl.r_28, R1.trip_k1_t1.sl.r_29, R1.trip_k1_t1.sl.r_30, R1.trip_k1_t1.sl.r_31, R1.trip_k1_t1.sl.r_32, R1.trip_k1_t1.sl.r_33, R1.trip_k1_t1.sl.r_34, R1.trip_k1_t1.sl.r_35, R1.trip_k1_t1.sl.r_36, R1.trip_k1_t1.sl.r_37, R1.trip_k1_t1.sl.r_38, R1.trip_k1_t1.sl.r_39, R1.trip_k1_t1.sl.r_40, R1.trip_k1_t1.sl.r_41, R1.trip_k1_t1.sl.r_42, R1.trip_k1_t1.sl.r_43, R1.trip_k1_t1.sl.r_44, R1.trip_k1_t1.sl.r_45, R1.trip_k1_t1.sl.r_46, R1.trip_k1_t1.sl.r_47, R1.trip_k1_t1.sl.r_48, R1.trip_k1_t1.sl.r_49, R1.trip_k1_t1.sl.r_50, R1.trip_k1_t1.sl.r_51, R1.trip_k1_t1.sl.cst_53]
    pointwise
    simp only [View.readAt_apply]
  · refine Nf4.wTile_high (arg3.view.read (Elt Ideal) X_arg3) (arg4.view.read (Elt Ideal) X_arg4) _ _ _ _ ?_ ?_ ?_ ?_ ?_
    all_goals
      have g := Nf4.gIdx11 nt (x 1)
      have l1 : (x 1).val < 128 := (x 1).isLt
      simp only [Nf4.unit_emb, Nf4.unit_idx, o100, o101, o110, o111, o300, o301, o310, o311, o400, o401, o410, o411, o600, o601, o610, o611, o700, o701, o710, o711, o20, o21, o50, o51]
    · omega
    · show 32 * k.val + (16 + (x 0).val) = 32 * k.val + 16 + (x 0).val
      omega
    · show 128 + (x 1).val + 256 = 384 + (x 1).val
      omega
    · rfl
    · show 0 + (Nf4.gIdx (x 1).val (Nf4.gBase 56#32 (BitVec.ofNat 32 nt.val) 2#32)).toNat % 128 = 56 + 4 * nt.val + (384 + (x 1).val - 256) / 64
      omega
  · refine Nf4.wTile_low (arg3.view.read (Elt Ideal) X_arg3) (arg4.view.read (Elt Ideal) X_arg4) _ _ _ _ ?_ ?_ ?_ ?_ ?_
    all_goals
      have g := Nf4.gIdx01 nt (x 1)
      have l1 : (x 1).val < 128 := (x 1).isLt
      simp only [Nf4.unit_emb, Nf4.unit_idx, o100, o101, o110, o111, o300, o301, o310, o311, o400, o401, o410, o411, o600, o601, o610, o611, o700, o701, o710, o711, o20, o21, o50, o51]
    · omega
    · show 32 * k.val + (16 + (x 0).val) = 32 * k.val + 16 + (x 0).val
      omega
    · show 128 + (x 1).val = 128 + (x 1).val
      omega
    · rfl
    · show 0 + (Nf4.gIdx (x 1).val (Nf4.gBase 0#32 (BitVec.ofNat 32 nt.val) 2#32)).toNat % 128 = 4 * nt.val + (128 + (x 1).val) / 64
      omega
  · refine Nf4.wTile_high (arg3.view.read (Elt Ideal) X_arg3) (arg4.view.read (Elt Ideal) X_arg4) _ _ _ _ ?_ ?_ ?_ ?_ ?_
    all_goals
      have g := Nf4.gIdx11 nt (x 1)
      have l1 : (x 1).val < 128 := (x 1).isLt
      simp only [Nf4.unit_emb, Nf4.unit_idx, o100, o101, o110, o111, o300, o301, o310, o311, o400, o401, o410, o411, o600, o601, o610, o611, o700, o701, o710, o711, o20, o21, o50, o51]
    · omega
    · show 32 * k.val + ((x 0).val) = 32 * k.val + 0 + (x 0).val
      omega
    · show 128 + (x 1).val + 256 = 384 + (x 1).val
      omega
    · rfl
    · show 0 + (Nf4.gIdx (x 1).val (Nf4.gBase 56#32 (BitVec.ofNat 32 nt.val) 2#32)).toNat % 128 = 56 + 4 * nt.val + (384 + (x 1).val - 256) / 64
      omega
  · refine Nf4.wTile_low (arg3.view.read (Elt Ideal) X_arg3) (arg4.view.read (Elt Ideal) X_arg4) _ _ _ _ ?_ ?_ ?_ ?_ ?_
    all_goals
      have g := Nf4.gIdx01 nt (x 1)
      have l1 : (x 1).val < 128 := (x 1).isLt
      simp only [Nf4.unit_emb, Nf4.unit_idx, o100, o101, o110, o111, o300, o301, o310, o311, o400, o401, o410, o411, o600, o601, o610, o611, o700, o701, o710, o711, o20, o21, o50, o51]
    · omega
    · show 32 * k.val + ((x 0).val) = 32 * k.val + 0 + (x 0).val
      omega
    · show 128 + (x 1).val = 128 + (x 1).val
      omega
    · rfl
    · show 0 + (Nf4.gIdx (x 1).val (Nf4.gBase 0#32 (BitVec.ofNat 32 nt.val) 2#32)).toNat % 128 = 4 * nt.val + (128 + (x 1).val) / 64
      omega
  · refine Nf4.wTile_high (arg3.view.read (Elt Ideal) X_arg3) (arg4.view.read (Elt Ideal) X_arg4) _ _ _ _ ?_ ?_ ?_ ?_ ?_
    all_goals
      have g := Nf4.gIdx10 nt (x 1)
      have l1 : (x 1).val < 128 := (x 1).isLt
      simp only [Nf4.unit_emb, Nf4.unit_idx, o100, o101, o110, o111, o300, o301, o310, o311, o400, o401, o410, o411, o600, o601, o610, o611, o700, o701, o710, o711, o20, o21, o50, o51]
    · omega
    · show 32 * k.val + (16 + (x 0).val) = 32 * k.val + 16 + (x 0).val
      omega
    · show 0 + (x 1).val + 256 = 256 + (x 1).val
      omega
    · rfl
    · show 0 + (Nf4.gIdx (x 1).val (Nf4.gBase 56#32 (BitVec.ofNat 32 nt.val) 0#32)).toNat % 128 = 56 + 4 * nt.val + (256 + (x 1).val - 256) / 64
      omega
  · refine Nf4.wTile_low (arg3.view.read (Elt Ideal) X_arg3) (arg4.view.read (Elt Ideal) X_arg4) _ _ _ _ ?_ ?_ ?_ ?_ ?_
    all_goals
      have g := Nf4.gIdx00 nt (x 1)
      have l1 : (x 1).val < 128 := (x 1).isLt
      simp only [Nf4.unit_emb, Nf4.unit_idx, o100, o101, o110, o111, o300, o301, o310, o311, o400, o401, o410, o411, o600, o601, o610, o611, o700, o701, o710, o711, o20, o21, o50, o51]
    · omega
    · show 32 * k.val + (16 + (x 0).val) = 32 * k.val + 16 + (x 0).val
      omega
    · show 0 + (x 1).val = 0 + (x 1).val
      omega
    · rfl
    · show 0 + (Nf4.gIdx (x 1).val (Nf4.gBase 0#32 (BitVec.ofNat 32 nt.val) 0#32)).toNat % 128 = 4 * nt.val + (0 + (x 1).val) / 64
      omega
  · refine Nf4.wTile_high (arg3.view.read (Elt Ideal) X_arg3) (arg4.view.read (Elt Ideal) X_arg4) _ _ _ _ ?_ ?_ ?_ ?_ ?_
    all_goals
      have g := Nf4.gIdx10 nt (x 1)
      have l1 : (x 1).val < 128 := (x 1).isLt
      simp only [Nf4.unit_emb, Nf4.unit_idx, o100, o101, o110, o111, o300, o301, o310, o311, o400, o401, o410, o411, o600, o601, o610, o611, o700, o701, o710, o711, o20, o21, o50, o51]
    · omega
    · show 32 * k.val + ((x 0).val) = 32 * k.val + 0 + (x 0).val
      omega
    · show 0 + (x 1).val + 256 = 256 + (x 1).val
      omega
    · rfl
    · show 0 + (Nf4.gIdx (x 1).val (Nf4.gBase 56#32 (BitVec.ofNat 32 nt.val) 0#32)).toNat % 128 = 56 + 4 * nt.val + (256 + (x 1).val - 256) / 64
      omega
  · refine Nf4.wTile_low (arg3.view.read (Elt Ideal) X_arg3) (arg4.view.read (Elt Ideal) X_arg4) _ _ _ _ ?_ ?_ ?_ ?_ ?_
    all_goals
      have g := Nf4.gIdx00 nt (x 1)
      have l1 : (x 1).val < 128 := (x 1).isLt
      simp only [Nf4.unit_emb, Nf4.unit_idx, o100, o101, o110, o111, o300, o301, o310, o311, o400, o401, o410, o411, o600, o601, o610, o611, o700, o701, o710, o711, o20, o21, o50, o51]
    · omega
    · show 32 * k.val + ((x 0).val) = 32 * k.val + 0 + (x 0).val
      omega
    · show 0 + (x 1).val = 0 + (x 1).val
      omega
    · rfl
    · show 0 + (Nf4.gIdx (x 1).val (Nf4.gBase 0#32 (BitVec.ofNat 32 nt.val) 0#32)).toNat % 128 = 4 * nt.val + (0 + (x 1).val) / 64
      omega

end Cert.KernelIdeal.R1

end
-- ==== Proof.Pt.lean ====
module
public import proofs.«01_k».proof.Proof.Run1
public import proofs.«01_k».proof.Proof.Trip
public import Idealize.ShloMosaic.Lib.VecWindow
@[expose] public section
noncomputable section
namespace Cert.KernelIdeal.R1
open Cert.KernelIdeal Cert.KernelIdeal.Gen
open Idealize.ShloMosaic Idealize.ShloMosaic.TcCoe Idealize.ShloMosaic.Tactic
open Idealize.SL Idealize.SL.RA Idealize.SL.BI
open Idealize.SL.Sem

/-- Every store of the first `n` trips of the decode loop writes the dequantised weight tile's values at its place. -/
theorem pb_spec (𝒱 : Variants) (bd : Option 𝒱.V) (c : Dev nD) (i : grid1.Coords) (arg2 : Memref sig .tc .vmem S256x18432 .bf16) (harg2 : arg2.IsWhole) (arg3 : Memref sig .tc .vmem S18432x256 .i8) (harg3 : arg3.IsWhole) (arg4 : Memref sig .tc .vmem S18432x128 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S18432x512 .bf16) (harg7 : arg7.IsWhole) (nt : Fin 14) (k1_h1 : cond1_0 i) (X_arg3 : Buf (Elt Ideal) ((arg3.view).loc (c : Thread nD τ))) (X_arg4 : Buf (Elt Ideal) ((arg4.view).loc (c : Thread nD τ))) :
    ∀ n, n ≤ k1_t1_loop.trips → ∀ p ∈ pb_k1_t1 𝒱 c bd i arg2 harg2 arg3 harg3 arg4 harg4 arg5 harg5 arg6 harg6 arg7 harg7 (BitVec.ofNat 32 nt.val) k1_h1 X_arg3 X_arg4 n,
      ∀ x, p.2 x = Nf4.wTile (arg3.view.read (Elt Ideal) X_arg3) (arg4.view.read (Elt Ideal) X_arg4) nt.val (p.1.emb x) := by
  intro n
  induction n with
  | zero => intro _ p hp; exact absurd hp (by rw [pb_k1_t1.eq_1]; exact List.not_mem_nil)
  | succ n ih =>
    intro hn p hp
    have e := pb_k1_t1_succ (F := Ideal) 𝒱 c bd i arg2 harg2 arg3 harg3 arg4 harg4 arg5 harg5 arg6 harg6 arg7 harg7 (BitVec.ofNat 32 nt.val) k1_h1 X_arg3 X_arg4 ⟨n, hn⟩
    rw [e] at hp
    rcases List.mem_append.mp hp with h | h
    · exact tripL_spec 𝒱 c bd i arg2 harg2 arg3 harg3 arg4 harg4 arg5 harg5 arg6 harg6 arg7 harg7 nt k1_h1 X_arg3 X_arg4 ⟨n, hn⟩ p h
    · exact ih (Nat.le_of_succ_le hn) p h

/-- Case A's stores into the carried scratch write the dequantised weight tile's values. -/
theorem spieces_A (c : Dev nD) (i : grid1.Coords) (arg2 : Memref sig .tc .vmem S256x18432 .bf16) (harg2 : arg2.IsWhole) (arg3 : Memref sig .tc .vmem S18432x256 .i8) (harg3 : arg3.IsWhole) (arg4 : Memref sig .tc .vmem S18432x128 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S18432x512 .bf16) (harg7 : arg7.IsWhole) (hc0 : cond1_0 i) (x0 : Vec Ideal S256x18432 .bf16) (x1 : Vec Ideal S18432x256 .i8) (x2 : Vec Ideal S18432x128 .bf16) :
    ∀ p ∈ (kernelRun1_A c i arg2 harg2 arg3 harg3 arg4 harg4 arg5 harg5 arg6 harg6 arg7 harg7 hc0 x0 x1 x2).2.2.1, ∀ x, p.2 x = Nf4.wTile x1 x2 (i 0).val (p.1.emb x) := by
  have h := pb_spec Variants.none none c i arg2 harg2 arg3 harg3 arg4 harg4 arg5 harg5 arg6 harg6 arg7 harg7 (i 0) hc0 (harg3.unread x1) (harg4.unread x2) k1_t1_loop.trips le_rfl
  rw [harg3.read_unread, harg4.read_unread] at h
  unfold kernelRun1_A
  dsimp only
  exact h

/-- Case A leaves the dequantised weight tile in the carried scratch. -/
theorem sout1_A_eq (c : Dev nD) (i : grid1.Coords) (arg2 : Memref sig .tc .vmem S256x18432 .bf16) (harg2 : arg2.IsWhole) (arg3 : Memref sig .tc .vmem S18432x256 .i8) (harg3 : arg3.IsWhole) (arg4 : Memref sig .tc .vmem S18432x128 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S18432x512 .bf16) (harg7 : arg7.IsWhole) (hc0 : cond1_0 i) (x0 : Vec Ideal S256x18432 .bf16) (x1 : Vec Ideal S18432x256 .i8) (x2 : Vec Ideal S18432x128 .bf16) :
    sout1_A_0 c i arg2 harg2 arg3 harg3 arg4 harg4 arg5 harg5 arg6 harg6 arg7 harg7 hc0 x0 x1 x2 = Nf4.wTile x1 x2 (i 0).val := by
  funext y
  exact View.read_writes_apply_of_pieces VS1_0 VS1_0.junk (Nf4.wTile x1 x2 (i 0).val) _ (spieces_A c i arg2 harg2 arg3 harg3 arg4 harg4 arg5 harg5 arg6 harg6 arg7 harg7 hc0 x0 x1 x2) y
    (scover1_A_0 c i arg2 harg2 arg3 harg3 arg4 harg4 arg5 harg5 arg6 harg6 arg7 harg7 hc0 x0 x1 x2 y)

/-- A load of the whole scratch after case A's stores reads the dequantised weight tile. -/
theorem cov_A (c : Dev nD) (i : grid1.Coords) (arg2 : Memref sig .tc .vmem S256x18432 .bf16) (harg2 : arg2.IsWhole) (arg3 : Memref sig .tc .vmem S18432x256 .i8) (harg3 : arg3.IsWhole) (arg4 : Memref sig .tc .vmem S18432x128 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S18432x512 .bf16) (harg7 : arg7.IsWhole) (hc0 : cond1_0 i) (x0 : Vec Ideal S256x18432 .bf16) (x1 : Vec Ideal S18432x256 .i8) (x2 : Vec Ideal S18432x128 .bf16) (inb : ∀ a, (![0, 0] : Fin 2 → ℕ) a + S18432x512.size a ≤ S18432x512.size a) :
    arg7.view.readCov (kernelRun1_A c i arg2 harg2 arg3 harg3 arg4 harg4 arg5 harg5 arg6 harg6 arg7 harg7 hc0 x0 x1 x2).2.2.1 (Rect.unit (s := S18432x512) ![0, 0] S18432x512.size inb).toLoadRect = Nf4.wTile x1 x2 (i 0).val := by
  refine (View.readAt_full _ _ inb).trans ?_
  funext y
  exact View.read_writes_apply_of_pieces arg7.view _ (Nf4.wTile x1 x2 (i 0).val) _ (spieces_A c i arg2 harg2 arg3 harg3 arg4 harg4 arg5 harg5 arg6 harg6 arg7 harg7 hc0 x0 x1 x2) y
    (scover1_A_0 c i arg2 harg2 arg3 harg3 arg4 harg4 arg5 harg5 arg6 harg6 arg7 harg7 hc0 x0 x1 x2 y)

/-- Case A leaves in output 3's block the product of the activation block with the dequantised tile. -/
theorem out1_A_3_eq (c : Dev nD) (i : grid1.Coords) (arg2 : Memref sig .tc .vmem S256x18432 .bf16) (harg2 : arg2.IsWhole) (arg3 : Memref sig .tc .vmem S18432x256 .i8) (harg3 : arg3.IsWhole) (arg4 : Memref sig .tc .vmem S18432x128 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S18432x512 .bf16) (harg7 : arg7.IsWhole) (hc0 : cond1_0 i) (x0 : Vec Ideal S256x18432 .bf16) (x1 : Vec Ideal S18432x256 .i8) (x2 : Vec Ideal S18432x128 .bf16) :
    out1_A_3 c i arg2 harg2 arg3 harg3 arg4 harg4 arg5 harg5 arg6 harg6 arg7 harg7 hc0 x0 x1 x2 = k1_pay4 x0 (Nf4.wTile x1 x2 (i 0).val) := by
  have h2 : (kernelRun1_A c i arg2 harg2 arg3 harg3 arg4 harg4 arg5 harg5 arg6 harg6 arg7 harg7 hc0 x0 x1 x2).1
      = [⟨Rect.unit ![0, 0] ![256, 256] inb_S256x256_S256x256_0_0, k1_pay4 x0 (Nf4.wTile x1 x2 (i 0).val)⟩] := by
    have e1 := cov_A c i arg2 harg2 arg3 harg3 arg4 harg4 arg5 harg5 arg6 harg6 arg7 harg7 hc0 x0 x1 x2 inb_S18432x512_S18432x512_0_0
    have e0 := (View.readAt_full arg2.view (harg2.unread x0) inb_S256x18432_S256x18432_0_0).trans (harg2.read_unread x0)
    rw [← e1, ← congrArg (fun z => k1_pay4 z _) e0]
    unfold kernelRun1_A
    rfl
  unfold out1_A_3
  rw [h2]
  exact View.read_writes_full _ _ _ _ _

/-- Case B leaves in output 3's block the product of the activation block with the carried tile. -/
theorem out1_B_3_eq (c : Dev nD) (i : grid1.Coords) (arg2 : Memref sig .tc .vmem S256x18432 .bf16) (harg2 : arg2.IsWhole) (arg3 : Memref sig .tc .vmem S18432x256 .i8) (harg3 : arg3.IsWhole) (arg4 : Memref sig .tc .vmem S18432x128 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S18432x512 .bf16) (harg7 : arg7.IsWhole) (hc0 : ¬ cond1_0 i) (x0 : Vec Ideal S256x18432 .bf16) (x1 : Vec Ideal S18432x256 .i8) (x2 : Vec Ideal S18432x128 .bf16) (xs : Vec Ideal S18432x512 .bf16) :
    out1_B_3 c i arg2 harg2 arg3 harg3 arg4 harg4 arg5 harg5 arg6 harg6 arg7 harg7 hc0 x0 x1 x2 xs = k1_pay4 x0 xs := by
  have h2 : (kernelRun1_B c i arg2 harg2 arg3 harg3 arg4 harg4 arg5 harg5 arg6 harg6 arg7 harg7 hc0 x0 x1 x2 xs).1
      = [⟨Rect.unit ![0, 0] ![256, 256] inb_S256x256_S256x256_0_0, k1_pay4 x0 xs⟩] := by
    have e1 := (View.readAt_full arg7.view (harg7.unread xs) inb_S18432x512_S18432x512_0_0).trans (harg7.read_unread xs)
    have e0 := (View.readAt_full arg2.view (harg2.unread x0) inb_S256x18432_S256x18432_0_0).trans (harg2.read_unread x0)
    conv_rhs => rw [← e1, ← e0]
    unfold kernelRun1_B
    rfl
  unfold out1_B_3
  rw [h2]
  exact View.read_writes_full _ _ _ _ _

/-- Case A leaves in output 4's block the product of the activation block with the dequantised tile. -/
theorem out1_A_4_eq (c : Dev nD) (i : grid1.Coords) (arg2 : Memref sig .tc .vmem S256x18432 .bf16) (harg2 : arg2.IsWhole) (arg3 : Memref sig .tc .vmem S18432x256 .i8) (harg3 : arg3.IsWhole) (arg4 : Memref sig .tc .vmem S18432x128 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S18432x512 .bf16) (harg7 : arg7.IsWhole) (hc0 : cond1_0 i) (x0 : Vec Ideal S256x18432 .bf16) (x1 : Vec Ideal S18432x256 .i8) (x2 : Vec Ideal S18432x128 .bf16) :
    out1_A_4 c i arg2 harg2 arg3 harg3 arg4 harg4 arg5 harg5 arg6 harg6 arg7 harg7 hc0 x0 x1 x2 = k1_pay5 x0 (Nf4.wTile x1 x2 (i 0).val) := by
  have h2 : (kernelRun1_A c i arg2 harg2 arg3 harg3 arg4 harg4 arg5 harg5 arg6 harg6 arg7 harg7 hc0 x0 x1 x2).2.1
      = [⟨Rect.unit ![0, 0] ![256, 256] inb_S256x256_S256x256_0_0, k1_pay5 x0 (Nf4.wTile x1 x2 (i 0).val)⟩] := by
    have e1 := cov_A c i arg2 harg2 arg3 harg3 arg4 harg4 arg5 harg5 arg6 harg6 arg7 harg7 hc0 x0 x1 x2 inb_S18432x512_S18432x512_0_0
    have e0 := (View.readAt_full arg2.view (harg2.unread x0) inb_S256x18432_S256x18432_0_0).trans (harg2.read_unread x0)
    rw [← e1, ← congrArg (fun z => k1_pay5 z _) e0]
    unfold kernelRun1_A
    rfl
  unfold out1_A_4
  rw [h2]
  exact View.read_writes_full _ _ _ _ _

/-- Case B leaves in output 4's block the product of the activation block with the carried tile. -/
theorem out1_B_4_eq (c : Dev nD) (i : grid1.Coords) (arg2 : Memref sig .tc .vmem S256x18432 .bf16) (harg2 : arg2.IsWhole) (arg3 : Memref sig .tc .vmem S18432x256 .i8) (harg3 : arg3.IsWhole) (arg4 : Memref sig .tc .vmem S18432x128 .bf16) (harg4 : arg4.IsWhole) (arg5 : Memref sig .tc .vmem S256x256 .bf16) (harg5 : arg5.IsWhole) (arg6 : Memref sig .tc .vmem S256x256 .bf16) (harg6 : arg6.IsWhole) (arg7 : Memref sig .tc .vmem S18432x512 .bf16) (harg7 : arg7.IsWhole) (hc0 : ¬ cond1_0 i) (x0 : Vec Ideal S256x18432 .bf16) (x1 : Vec Ideal S18432x256 .i8) (x2 : Vec Ideal S18432x128 .bf16) (xs : Vec Ideal S18432x512 .bf16) :
    out1_B_4 c i arg2 harg2 arg3 harg3 arg4 harg4 arg5 harg5 arg6 harg6 arg7 harg7 hc0 x0 x1 x2 xs = k1_pay5 x0 xs := by
  have h2 : (kernelRun1_B c i arg2 harg2 arg3 harg3 arg4 harg4 arg5 harg5 arg6 harg6 arg7 harg7 hc0 x0 x1 x2 xs).2.1
      = [⟨Rect.unit ![0, 0] ![256, 256] inb_S256x256_S256x256_0_0, k1_pay5 x0 xs⟩] := by
    have e1 := (View.readAt_full arg7.view (harg7.unread xs) inb_S18432x512_S18432x512_0_0).trans (harg7.read_unread xs)
    have e0 := (View.readAt_full arg2.view (harg2.unread x0) inb_S256x18432_S256x18432_0_0).trans (harg2.read_unread x0)
    conv_rhs => rw [← e1, ← e0]
    unfold kernelRun1_B
    rfl
  unfold out1_B_4
  rw [h2]
  exact View.read_writes_full _ _ _ _ _

end Cert.KernelIdeal.R1
end
-- ==== Proof.Sweep.lean ====
module
public import proofs.«01_k».proof.Proof.Pt
@[expose] public section
noncomputable section
namespace Cert.KernelIdeal.R1
open Cert.KernelIdeal Cert.KernelIdeal.Gen
open Idealize.ShloMosaic Idealize.ShloMosaic.TcCoe Idealize.ShloMosaic.Tactic
open Idealize.SL Idealize.SL.RA Idealize.SL.BI
open Idealize.SL.Sem

/-- Where the activation window is at each point. -/
theorem idx0 : ∀ t : Fin cfg1.N, win1_0.index t 0 = t.val % 32 ∧ win1_0.index t 1 = 0 :=
  (by decide +kernel : ∀ t : Fin grid1.N, _)
/-- Where the packed-code window is at each point. -/
theorem idx1 : ∀ t : Fin cfg1.N, win1_1.index t 0 = 0 ∧ win1_1.index t 1 = t.val / 32 :=
  (by decide +kernel : ∀ t : Fin grid1.N, _)
/-- Where the absmax window is at each point. -/
theorem idx2 : ∀ t : Fin cfg1.N, win1_2.index t 0 = 0 ∧ win1_2.index t 1 = 0 :=
  (by decide +kernel : ∀ t : Fin grid1.N, _)
/-- The column tile of each point. -/
theorem coord0 : ∀ t : Fin cfg1.N, (grid1.coords t 0).val = t.val / 32 :=
  (by decide +kernel : ∀ t : Fin grid1.N, _)

variable (V : (c : Dev nD) → (b : Ref sig .tc) → Buf (Elt Ideal) ((c : Thread nD τ).loc b))

/-- The activation block of a point. -/
theorem iblk0_eq (c : Dev nD) (t : Fin cfg1.N) :
    (iblk V c 0 t : Vec Ideal S256x18432 .bf16) = Nf4.rowBlk (V c main_v3) (t.val % 32) := by
  funext j
  unfold iblk Nf4.rowBlk
  rw [View.read_apply]
  show V c main_v3 _ = V c main_v3 _
  have hj : (j 0).val < 256 := (j 0).isLt
  refine congrArg (V c main_v3) (funext fun a => Fin.ext ?_)
  match a with
  | ⟨0, _⟩ => show win1_0.index t 0 * 256 + 1 * (j 0).val = (256 * (t.val % 32) + (j 0).val) % 8192; rw [(idx0 t).1]; omega
  | ⟨1, _⟩ => show win1_0.index t 1 * 18432 + 1 * (j 1).val = (j 1).val; rw [(idx0 t).2]; omega

/-- The packed-code block of a point. -/
theorem iblk1_eq (c : Dev nD) (t : Fin cfg1.N) :
    (iblk V c 1 t : Vec Ideal S18432x256 .i8) = Nf4.colBlk (V c main_arg1) (t.val / 32) := by
  funext j
  unfold iblk Nf4.colBlk
  rw [View.read_apply]
  show V c main_arg1 _ = V c main_arg1 _
  have hj : (j 1).val < 256 := (j 1).isLt
  have ht : t.val < 448 := lt_of_lt_of_eq t.isLt N_1
  refine congrArg (V c main_arg1) (funext fun a => Fin.ext ?_)
  match a with
  | ⟨0, _⟩ => show win1_1.index t 0 * 18432 + 1 * (j 0).val = (j 0).val; rw [(idx1 t).1]; omega
  | ⟨1, _⟩ => show win1_1.index t 1 * 256 + 1 * (j 1).val = (256 * (t.val / 32) + (j 1).val) % 3584; rw [(idx1 t).2]; omega

/-- The absmax block of a point is the whole array. -/
theorem iblk2_eq (c : Dev nD) (t : Fin cfg1.N) :
    (iblk V c 2 t : Vec Ideal S18432x128 .bf16) = V c main_v2 := by
  funext j
  unfold iblk
  rw [View.read_apply]
  show V c main_v2 _ = V c main_v2 _
  refine congrArg (V c main_v2) (funext fun a => Fin.ext ?_)
  match a with
  | ⟨0, _⟩ => show win1_2.index t 0 * 18432 + 1 * (j 0).val = (j 0).val; rw [(idx2 t).1]; omega
  | ⟨1, _⟩ => show win1_2.index t 1 * 128 + 1 * (j 1).val = (j 1).val; rw [(idx2 t).2]; omega

/-- The dequantised weight tile the carried scratch holds while column tile `nt` is processed. -/
def tileAt (c : Dev nD) (nt : ℕ) : Vec Ideal S18432x512 .bf16 := Nf4.wTile (Nf4.colBlk (V c main_arg1) nt) (V c main_v2) nt

/-- After every point: both output blocks hold the products of the point's activation block with the column tile's
    dequantised weights, and the carried scratch holds those weights. -/
theorem outsAt1_eq (c : Dev nD) : ∀ (n : ℕ) (h : n < cfg1.N), outsAt1 V c n h
    = (k1_pay4 (Nf4.rowBlk (V c main_v3) (n % 32)) (tileAt V c (n / 32)), k1_pay5 (Nf4.rowBlk (V c main_v3) (n % 32)) (tileAt V c (n / 32)), tileAt V c (n / 32)) := by
  have hA : ∀ (t : Fin cfg1.N), t.val % 32 = 0 → outsAt1 V c t.val t.isLt
      = (k1_pay4 (Nf4.rowBlk (V c main_v3) (t.val % 32)) (tileAt V c (t.val / 32)), k1_pay5 (Nf4.rowBlk (V c main_v3) (t.val % 32)) (tileAt V c (t.val / 32)), tileAt V c (t.val / 32)) := by
    intro t h0
    rw [outsAt1_A V c t h0, out1_A_3_eq, out1_A_4_eq, sout1_A_eq, coord0 t]
    have e0 := iblk0_eq V c t
    have e1 := iblk1_eq V c t
    have e2 := iblk2_eq V c t
    unfold tileAt
    rw [← e0, ← e1, ← e2]
  intro n
  induction n with
  | zero => intro h; exact hA ⟨0, h⟩ rfl
  | succ n ih =>
    intro h
    by_cases h0 : (n + 1) % 32 = 0
    · exact hA ⟨n + 1, h⟩ h0
    · have hB : ¬(⟨n + 1, h⟩ : Fin cfg1.N).val % 32 = 0 := h0
      have e := outsAt1_B V c ⟨n + 1, h⟩ hB
      rw [out1_B_3_eq, out1_B_4_eq] at e
      refine e.trans ?_
      have e0 := iblk0_eq V c ⟨n + 1, h⟩
      have ei := ih (Nat.lt_of_succ_lt h)
      have es : ∀ (q : (⟨n + 1, h⟩ : Fin cfg1.N).val - 1 < cfg1.N), (outsAt1 V c ((⟨n + 1, h⟩ : Fin cfg1.N).val - 1) q).2.2 = tileAt V c ((n + 1) / 32) := by
        intro q
        show (outsAt1 V c n _).2.2 = _
        rw [ei, show (n + 1) / 32 = n / 32 by omega]
      unfold sout1_B_0
      rw [es]
      show (k1_pay4 (iblk V c 0 ⟨n + 1, h⟩ : Vec Ideal S256x18432 .bf16) _, k1_pay5 (iblk V c 0 ⟨n + 1, h⟩ : Vec Ideal S256x18432 .bf16) _, _) = _
      rw [e0]

/-- The low half's payload at an index: the sum over the contracted axis. -/
theorem pay4_apply (a : Vec Ideal S256x18432 .bf16) (w : Vec Ideal S18432x512 .bf16) (j : S256x256.Idx) :
    k1_pay4 a w j = ∑ k : Fin 18432, a (ix2 (j 0) k) * w (ix2 k ⟨(j 1).val, Nat.lt_of_lt_of_le (j 1).isLt (by decide)⟩) := by
  unfold k1_pay4 k1_pay3
  pointwise

/-- The high half's payload at an index. -/
theorem pay5_apply (a : Vec Ideal S256x18432 .bf16) (w : Vec Ideal S18432x512 .bf16) (j : S256x256.Idx) :
    k1_pay5 a w j = ∑ k : Fin 18432, a (ix2 (j 0) k) * w (ix2 k ⟨256 + (j 1).val, Nat.add_lt_add_left (k := 256) (m := 256) (j 1).isLt⟩) := by
  unfold k1_pay5 k1_pay3
  pointwise

/-- Flattening the leading two axes, at an index. -/
theorem rows_eq (A : Vec Ideal S16x512x18432 .bf16) : shapeCast S8192x18432 A shapeCasts_S16x512x18432_S8192x18432 = Nf4.rows A := by
  funext z
  unfold Nf4.rows
  pointwise

/-- The low half's block is the matching part of the product. -/
theorem pay4_dx (c : Dev nD) (t : ℕ) (ht : t < 448) (y : S256x256.Idx) (i : S8192x3584.Idx) (h0 : (i 0).val = 256 * (t % 32) + (y 0).val) (h1 : (i 1).val = 256 * (t / 32) + (y 1).val) :
    k1_pay4 (Nf4.rowBlk (V c main_v3) (t % 32)) (tileAt V c (t / 32)) y = Nf4.dx (V c main_v3) (V c main_arg1) (V c main_v2) 0 i := by
  have hy0 : (y 0).val < 256 := (y 0).isLt
  have hy1 : (y 1).val < 256 := (y 1).isLt
  rw [pay4_apply]
  unfold Nf4.dx
  refine Finset.sum_congr (M := Ideal .bf16) rfl fun k _ => ?_
  unfold tileAt
  refine congrArg₂ (· * ·) ?_ ?_
  · show V c main_v3 _ = V c main_v3 _
    refine congrArg (fun z => V c main_v3 (ix2 z k)) (Fin.ext ?_)
    show (256 * (t % 32) + (y 0).val) % 8192 = (i 0).val
    omega
  · rw [show t / 32 = (i 1).val / 256 by omega]
    exact Nf4.wTile_eq_wgt (V c main_arg1) (V c main_v2) 0 _ k _ (i 1) (by show (y 1).val = 256 * 0 + (i 1).val % 256; omega) rfl

/-- Where the low half's window is at each point, and that every point writes its block back. -/
theorem idx3 : ∀ t : Fin cfg1.N, win1_3.index t 0 = t.val % 32 ∧ win1_3.index t 1 = t.val / 32 ∧ win1_3.flush t = true :=
  (by decide +kernel : ∀ t : Fin grid1.N, _)

/-- An index of the low half is in a point's block iff each coordinate is in the block's range on its axis. -/
theorem mem_blk3 (t : Fin cfg1.N) (i : S8192x3584.Idx) :
    i ∈ ((cfg1.win 3).blk t).view.set ↔ ∀ a : Fin 2, win1_3.index t a * S256x256.size a ≤ (i a).val ∧ (i a).val < win1_3.index t a * S256x256.size a + S256x256.size a := by
  show i ∈ ((View.whole main_v4_0).slice (win1_3.rect t)).set ↔ _
  rw [View.set_slice_whole, Rect.mem_set_unit]
  exact Iff.rfl

/-- What the region leaves in the low half's array, if every point's block holds the matching part of it. -/
theorem arr3_of (c : Dev nD) (P : ℕ → Vec Ideal S256x256 .bf16) (hP : ∀ t : Fin cfg1.N, (outsAt1 V c t.val t.isLt).1 = P t.val) (G : S8192x3584.Idx → Ideal .bf16)
    (hG : ∀ (t : ℕ), t < 448 → ∀ (y : S256x256.Idx) (i : S8192x3584.Idx), (i 0).val = 256 * (t % 32) + (y 0).val → (i 1).val = 256 * (t / 32) + (y 1).val → P t y = G i) :
    (dat V c).arrAt 3 cfg1.N = G := by
  refine (dat V c).arrAt_eq_of_cover 3 _ (fun t hf => ?_) (fun i => ?_)
  · show (cfg1.win 3).cut (grid1.coords t) ((dat V c).after 3 t) = _
    rw [after1_3, hP t]
    have ht : t.val < 448 := lt_of_lt_of_eq t.isLt N_1
    funext y
    have hb0 : (((cfg1.win 3).blk t).view.emb y 0).val = win1_3.index t (0 : Fin 2) * 256 + 1 * (y 0).val := rfl
    have hb1 : (((cfg1.win 3).blk t).view.emb y 1).val = win1_3.index t (1 : Fin 2) * 256 + 1 * (y 1).val := rfl
    have e0 := (idx3 t).1
    have e1 := (idx3 t).2.1
    show P t.val ((cfg1.win 3).xinj (grid1.coords t) y) = G (((cfg1.win 3).blk t).view.emb y)
    refine hG t.val ht _ _ ?_ ?_
    · rw [hb0, e0]; show t.val % 32 * 256 + 1 * (y 0).val = 256 * (t.val % 32) + (y 0).val; omega
    · rw [hb1, e1]; show t.val / 32 * 256 + 1 * (y 1).val = 256 * (t.val / 32) + (y 1).val; omega
  · have hi0 : (i 0).val < 8192 := (i 0).isLt
    have hi1 : (i 1).val < 3584 := (i 1).isLt
    have ht : (i 0).val / 256 + 32 * ((i 1).val / 256) < cfg1.N := lt_of_lt_of_eq (by omega) N_1.symm
    obtain ⟨e0, e1, e2⟩ := idx3 ⟨(i 0).val / 256 + 32 * ((i 1).val / 256), ht⟩
    refine ⟨⟨(i 0).val / 256 + 32 * ((i 1).val / 256), ht⟩, e2, (mem_blk3 _ i).mpr fun a => ?_⟩
    dsimp only at e0 e1
    match a with
    | ⟨0, _⟩ => show win1_3.index _ (0 : Fin 2) * 256 ≤ (i 0).val ∧ (i 0).val < win1_3.index _ (0 : Fin 2) * 256 + 256; rw [e0]; omega
    | ⟨1, _⟩ => show win1_3.index _ (1 : Fin 2) * 256 ≤ (i 1).val ∧ (i 1).val < win1_3.index _ (1 : Fin 2) * 256 + 256; rw [e1]; omega

/-- What the region leaves in the low half's array. -/
theorem arr3_eq (c : Dev nD) : (dat V c).arrAt 3 cfg1.N = (Nf4.dx (V c main_v3) (V c main_arg1) (V c main_v2) 0 : S8192x3584.Idx → Ideal .bf16) :=
  arr3_of V c (fun t => k1_pay4 (Nf4.rowBlk (V c main_v3) (t % 32)) (tileAt V c (t / 32)))
    (fun t => congrArg (fun q => q.1) (outsAt1_eq V c t.val t.isLt)) _ (fun t ht y i h0 h1 => pay4_dx V c t ht y i h0 h1)

/-- The high half's block is the matching part of the product. -/
theorem pay5_dx (c : Dev nD) (t : ℕ) (ht : t < 448) (y : S256x256.Idx) (i : S8192x3584.Idx) (h0 : (i 0).val = 256 * (t % 32) + (y 0).val) (h1 : (i 1).val = 256 * (t / 32) + (y 1).val) :
    k1_pay5 (Nf4.rowBlk (V c main_v3) (t % 32)) (tileAt V c (t / 32)) y = Nf4.dx (V c main_v3) (V c main_arg1) (V c main_v2) 1 i := by
  have hy0 : (y 0).val < 256 := (y 0).isLt
  have hy1 : (y 1).val < 256 := (y 1).isLt
  rw [pay5_apply]
  unfold Nf4.dx
  refine Finset.sum_congr (M := Ideal .bf16) rfl fun k _ => ?_
  unfold tileAt
  refine congrArg₂ (· * ·) ?_ ?_
  · show V c main_v3 _ = V c main_v3 _
    refine congrArg (fun z => V c main_v3 (ix2 z k)) (Fin.ext ?_)
    show (256 * (t % 32) + (y 0).val) % 8192 = (i 0).val
    omega
  · rw [show t / 32 = (i 1).val / 256 by omega]
    exact Nf4.wTile_eq_wgt (V c main_arg1) (V c main_v2) 1 _ k _ (i 1) (by show 256 + (y 1).val = 256 * 1 + (i 1).val % 256; omega) rfl

/-- Where the high half's window is at each point, and that every point writes its block back. -/
theorem idx4 : ∀ t : Fin cfg1.N, win1_4.index t 0 = t.val % 32 ∧ win1_4.index t 1 = t.val / 32 ∧ win1_4.flush t = true :=
  (by decide +kernel : ∀ t : Fin grid1.N, _)

/-- An index of the high half is in a point's block iff each coordinate is in the block's range on its axis. -/
theorem mem_blk4 (t : Fin cfg1.N) (i : S8192x3584.Idx) :
    i ∈ ((cfg1.win 4).blk t).view.set ↔ ∀ a : Fin 2, win1_4.index t a * S256x256.size a ≤ (i a).val ∧ (i a).val < win1_4.index t a * S256x256.size a + S256x256.size a := by
  show i ∈ ((View.whole main_v4_1).slice (win1_4.rect t)).set ↔ _
  rw [View.set_slice_whole, Rect.mem_set_unit]
  exact Iff.rfl

/-- What the region leaves in the high half's array, if every point's block holds the matching part of it. -/
theorem arr4_of (c : Dev nD) (P : ℕ → Vec Ideal S256x256 .bf16) (hP : ∀ t : Fin cfg1.N, (outsAt1 V c t.val t.isLt).2.1 = P t.val) (G : S8192x3584.Idx → Ideal .bf16)
    (hG : ∀ (t : ℕ), t < 448 → ∀ (y : S256x256.Idx) (i : S8192x3584.Idx), (i 0).val = 256 * (t % 32) + (y 0).val → (i 1).val = 256 * (t / 32) + (y 1).val → P t y = G i) :
    (dat V c).arrAt 4 cfg1.N = G := by
  refine (dat V c).arrAt_eq_of_cover 4 _ (fun t hf => ?_) (fun i => ?_)
  · show (cfg1.win 4).cut (grid1.coords t) ((dat V c).after 4 t) = _
    rw [after1_4, hP t]
    have ht : t.val < 448 := lt_of_lt_of_eq t.isLt N_1
    funext y
    have hb0 : (((cfg1.win 4).blk t).view.emb y 0).val = win1_4.index t (0 : Fin 2) * 256 + 1 * (y 0).val := rfl
    have hb1 : (((cfg1.win 4).blk t).view.emb y 1).val = win1_4.index t (1 : Fin 2) * 256 + 1 * (y 1).val := rfl
    have e0 := (idx4 t).1
    have e1 := (idx4 t).2.1
    show P t.val ((cfg1.win 4).xinj (grid1.coords t) y) = G (((cfg1.win 4).blk t).view.emb y)
    refine hG t.val ht _ _ ?_ ?_
    · rw [hb0, e0]; show t.val % 32 * 256 + 1 * (y 0).val = 256 * (t.val % 32) + (y 0).val; omega
    · rw [hb1, e1]; show t.val / 32 * 256 + 1 * (y 1).val = 256 * (t.val / 32) + (y 1).val; omega
  · have hi0 : (i 0).val < 8192 := (i 0).isLt
    have hi1 : (i 1).val < 3584 := (i 1).isLt
    have ht : (i 0).val / 256 + 32 * ((i 1).val / 256) < cfg1.N := lt_of_lt_of_eq (by omega) N_1.symm
    obtain ⟨e0, e1, e2⟩ := idx4 ⟨(i 0).val / 256 + 32 * ((i 1).val / 256), ht⟩
    refine ⟨⟨(i 0).val / 256 + 32 * ((i 1).val / 256), ht⟩, e2, (mem_blk4 _ i).mpr fun a => ?_⟩
    dsimp only at e0 e1
    match a with
    | ⟨0, _⟩ => show win1_4.index _ (0 : Fin 2) * 256 ≤ (i 0).val ∧ (i 0).val < win1_4.index _ (0 : Fin 2) * 256 + 256; rw [e0]; omega
    | ⟨1, _⟩ => show win1_4.index _ (1 : Fin 2) * 256 ≤ (i 1).val ∧ (i 1).val < win1_4.index _ (1 : Fin 2) * 256 + 256; rw [e1]; omega

/-- What the region leaves in the high half's array. -/
theorem arr4_eq (c : Dev nD) : (dat V c).arrAt 4 cfg1.N = (Nf4.dx (V c main_v3) (V c main_arg1) (V c main_v2) 1 : S8192x3584.Idx → Ideal .bf16) :=
  arr4_of V c (fun t => k1_pay5 (Nf4.rowBlk (V c main_v3) (t % 32)) (tileAt V c (t / 32)))
    (fun t => congrArg (fun q => q.2.1) (outsAt1_eq V c t.val t.isLt)) _ (fun t ht y i h0 h1 => pay5_dx V c t ht y i h0 h1)

end Cert.KernelIdeal.R1
end
-- ==== Proof.Chain.lean ====
/-
  The contents of the device buffers between the items of the kernel's program (host lines, the launch that decodes the scales, one host
  line, the launch of the product, host lines), and the two launches as segments between those contents. What the first launch leaves in its
  array is not fixed by the inputs (its last 16 lanes are never stored), so it is an unknown `x` that the later contents depend on.
-/
module

public import proofs.«01_k».proof.Proof.Run0
public import proofs.«01_k».proof.Proof.Run1
public import Idealize.ShloMosaic.Lib.Pipeline.RegionArraysF
public import Idealize.ShloMosaic.Lib.Pipeline.RegionsForgetLinks

@[expose] public section

noncomputable section

namespace Cert.KernelIdeal.Whole

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat RegionSeg CSeg Ticket)

variable {F : FTy → Type} [FloatOps F]

local notation "𝕄" => MT nD τ sig Unit (Elt F) ℕ UU ℕ

/-- The prefetched tables' admissible contents: no launch has a table. -/
abbrev adm : (p : Fin 2) → (pcfgs (F := F) p).Adm := fun p => (cfgs p).toPCfg_adm

/-- A valuation of the device buffers read at the TensorCore's references. -/
abbrev reads (W : Dev nD → Valuation τ sig (Elt F)) (c : Dev nD) (b : Ref sig .tc) : Buf (Elt F) ((c : Thread nD τ).loc b) := W c (Proc.devRef .tc b)

/-! ## The contents between the items -/

/-- What the first launch may leave in its array. -/
abbrev Unk : Type := (Proc.devRef .tc main_v2 : DevRef τ sig).ty.Contents (Elt F)

variable (m : (ℓ : Loc nD τ sig) → Buf (Elt F) ℓ)

/-- The buffers at launch, -/
abbrev V0 (c : Dev nD) : Valuation τ sig (Elt F) := fun b => m (c, b)
/-- after the first host lines, -/
abbrev V1 (c : Dev nD) : Valuation τ sig (Elt F) := StableHlo.after hostOps0 (V0 m c)
/-- after the padding of the scales, -/
abbrev V2 (c : Dev nD) : Valuation τ sig (Elt F) := StableHlo.after hostOps0_1 (V1 m c)
/-- after the first launch, -/
abbrev V3 (x : Unk (F := F)) (c : Dev nD) : Valuation τ sig (Elt F) := Function.update (V2 m c) main_v2 x
/-- after the host line between the launches, -/
abbrev V4 (x : Unk (F := F)) (c : Dev nD) : Valuation τ sig (Elt F) := StableHlo.after hostOps1 (V3 m x c)
/-- after the second launch, -/
abbrev V5 (x : Unk (F := F)) (c : Dev nD) : Valuation τ sig (Elt F) :=
  Function.update (Function.update (V4 m x c) main_v4_0 ((R1.dat (reads (V4 m x)) c).arrAt 3 cfg1.N)) main_v4_1 ((R1.dat (reads (V4 m x)) c).arrAt 4 cfg1.N)
/-- and at the end. -/
abbrev V6 (x : Unk (F := F)) (c : Dev nD) : Valuation τ sig (Elt F) := StableHlo.after hostOps2 (V5 m x c)

/-- The first launch's data, with its output held to what the body stores. -/
abbrev rd0 (c : Dev nD) : RDat τ (Elt F) Unit ℕ UU ℕ cfg0 c := (R0.dat (reads (V2 m)) c).toRRel R0.forgets0 (R0.Rl0 (reads (V2 m)) c)

/-- `x` is something that the first launch may leave in its array. -/
def Left (x : Unk (F := F)) (c : Dev nD) : Prop := (rd0 m c).ArrAt 3 cfg0.N x

/-! ## What the items leave unchanged -/

theorem hostOps0_fresh : (hostOps0 : List (HloOp τ sig (Elt F))).Forall fun op => op.fresh = ∅ := by
  simp only [List.Forall]; repeat' constructor
abbrev hostOps0_W : List (Ref sig .tc) := [main_v0, main_c]
theorem hostOps0_writes : (hostOps0 : List (HloOp τ sig (Elt F))).Forall fun op => op.writes ⊆ (hostOps0_W.map (Proc.devRef (τ := τ) .tc)).toFinset :=
  StableHlo.forall_writes_sub_of_map rfl
theorem hostOps0_1_fresh : (hostOps0_1 : List (HloOp τ sig (Elt F))).Forall fun op => op.fresh = ∅ := by
  simp only [List.Forall]; repeat' constructor
abbrev hostOps0_1_W : List (Ref sig .tc) := [main_call0_v0, main_v1]
theorem hostOps0_1_writes : (hostOps0_1 : List (HloOp τ sig (Elt F))).Forall fun op => op.writes ⊆ (hostOps0_1_W.map (Proc.devRef (τ := τ) .tc)).toFinset :=
  StableHlo.forall_writes_sub_of_map rfl
theorem hostOps1_fresh : (hostOps1 : List (HloOp τ sig (Elt F))).Forall fun op => op.fresh = ∅ := by
  simp only [List.Forall]; repeat' constructor
abbrev hostOps1_W : List (Ref sig .tc) := [main_v3]
theorem hostOps1_writes : (hostOps1 : List (HloOp τ sig (Elt F))).Forall fun op => op.writes ⊆ (hostOps1_W.map (Proc.devRef (τ := τ) .tc)).toFinset :=
  StableHlo.forall_writes_sub_of_map rfl
theorem hostOps2_fresh : (hostOps2 : List (HloOp τ sig (Elt F))).Forall fun op => op.fresh = ∅ := by
  simp only [List.Forall]; repeat' constructor
abbrev hostOps2_W : List (Ref sig .tc) := [main_v5, main_v6]
theorem hostOps2_writes : (hostOps2 : List (HloOp τ sig (Elt F))).Forall fun op => op.writes ⊆ (hostOps2_W.map (Proc.devRef (τ := τ) .tc)).toFinset :=
  StableHlo.forall_writes_sub_of_map rfl

theorem V1_of (c : Dev nD) (r : Ref sig .tc) (h : r ∉ hostOps0_W) : V1 m c r = V0 m c r :=
  StableHlo.after_of_writes_sub hostOps0 _ hostOps0_writes h
theorem V2_of (c : Dev nD) (r : Ref sig .tc) (h : r ∉ hostOps0_1_W) : V2 m c r = V1 m c r :=
  StableHlo.after_of_writes_sub hostOps0_1 _ hostOps0_1_writes h
theorem V3_of (x : Unk (F := F)) (c : Dev nD) (r : Ref sig .tc) (h : r ∉ ([main_v2] : List (Ref sig .tc))) : V3 m x c r = V2 m c r := by
  simp only [V3, Function.update_of_ne (StableHlo.devRef_ne_of_ne (List.ne_of_not_mem_cons h) : (Proc.devRef .tc r : DevRef τ sig) ≠ Proc.devRef .tc main_v2)]
theorem V4_of (x : Unk (F := F)) (c : Dev nD) (r : Ref sig .tc) (h : r ∉ hostOps1_W) : V4 m x c r = V3 m x c r :=
  StableHlo.after_of_writes_sub hostOps1 _ hostOps1_writes h
theorem V5_of (x : Unk (F := F)) (c : Dev nD) (r : Ref sig .tc) (h : r ∉ ([main_v4_0, main_v4_1] : List (Ref sig .tc))) : V5 m x c r = V4 m x c r := by
  simp only [V5, Function.update_of_ne (StableHlo.devRef_ne_of_ne (List.ne_of_not_mem_cons h) : (Proc.devRef .tc r : DevRef τ sig) ≠ Proc.devRef .tc main_v4_0), Function.update_of_ne (StableHlo.devRef_ne_of_ne (List.ne_of_not_mem_cons (List.not_mem_of_not_mem_cons h)) : (Proc.devRef .tc r : DevRef τ sig) ≠ Proc.devRef .tc main_v4_1)]
theorem V6_of (x : Unk (F := F)) (c : Dev nD) (r : Ref sig .tc) (h : r ∉ hostOps2_W) : V6 m x c r = V5 m x c r :=
  StableHlo.after_of_writes_sub hostOps2 _ hostOps2_writes h

/-- The program's argument arrays. -/
abbrev argRefs : List (Ref sig .tc) := [main_arg0, main_arg1, main_arg2, main_arg3, main_arg4]
theorem args1 : ∀ a ∈ argRefs, a ∉ hostOps0_W := ListAll.forall_mem_of_all_decide (by decide +kernel)
theorem args2 : ∀ a ∈ argRefs, a ∉ hostOps0_1_W := ListAll.forall_mem_of_all_decide (by decide +kernel)
theorem args3 : ∀ a ∈ argRefs, a ∉ ([main_v2] : List (Ref sig .tc)) := ListAll.forall_mem_of_all_decide (by decide +kernel)
theorem args4 : ∀ a ∈ argRefs, a ∉ hostOps1_W := ListAll.forall_mem_of_all_decide (by decide +kernel)
theorem args5 : ∀ a ∈ argRefs, a ∉ ([main_v4_0, main_v4_1] : List (Ref sig .tc)) := ListAll.forall_mem_of_all_decide (by decide +kernel)
theorem args6 : ∀ a ∈ argRefs, a ∉ hostOps2_W := ListAll.forall_mem_of_all_decide (by decide +kernel)

/-- An argument's array is as launched when the first launch runs, -/
theorem V2_args (c : Dev nD) : ∀ a ∈ argRefs, V2 m c a = m ((c : Thread nD τ).loc a) := fun a ha =>
  (V2_of m c a (args2 a ha)).trans (V1_of m c a (args1 a ha))
/-- when the second runs, -/
theorem V4_args (x : Unk (F := F)) (c : Dev nD) : ∀ a ∈ argRefs, V4 m x c a = m ((c : Thread nD τ).loc a) := fun a ha =>
  (V4_of m x c a (args4 a ha)).trans ((V3_of m x c a (args3 a ha)).trans (V2_args m c a ha))
/-- and at the end. -/
theorem V6_args (x : Unk (F := F)) (c : Dev nD) : ∀ a ∈ argRefs, V6 m x c a = m ((c : Thread nD τ).loc a) := fun a ha =>
  (V6_of m x c a (args6 a ha)).trans ((V5_of m x c a (args5 a ha)).trans (V4_args m x c a ha))

/-! ## The launches -/

/-- The one index is assigned at every TensorCore cell. -/
def L (g : GSem nD τ sig) : Finset Unit := if g.1.2 = .tc then {()} else ∅
/-- Every level is 0. -/
def lv (_ : GSem nD τ sig) (_ : Unit) : ℕ := 0

theorem hL (g : GSem nD τ sig) (h : g.1.2 ≠ .tc) : L g = ∅ := if_neg h

theorem cut (p : Fin 2) : Pipeline.LevelCut (pcfgs (F := F)) adm () L lv p (fun _ => 0) (fun _ => 0) where
  hι c w s := by unfold L; rw [if_pos rfl]; exact Finset.mem_singleton_self _
  hιb c w s := le_rfl
  hD c g i h := absurd h (Nat.lt_irrefl _)

/-- What rides beside the buffers: the generator register at some state, and nothing owed. -/
def Rest (c : Dev nD) : sProp 𝕄 :=
  iprop((∃ r, prngReg c r) ∗ ∃ Wd, owes (c : Thread nD τ) (0 : CellTallies nD τ sig Unit) Wd)

/-- The buffers at a valuation, and the rest. -/
def At (W : Dev nD → Valuation τ sig (Elt F)) (c : Dev nD) : sProp 𝕄 :=
  iprop(StableHlo.held (c : Thread nD τ) (Pipeline.ucRefs τ sig) (W c) ∗ Rest c)

/-- The two launches' data at one valuation. -/
def dats (W : Dev nD → Valuation τ sig (Elt F)) : (p : Fin 2) → (c : Dev nD) → Dat τ (Elt F) Unit ℕ UU ℕ (Pipeline.pin (pcfgs (F := F)) adm p) c
  | ⟨0, _⟩ => fun c => R0.dat (reads W) c
  | ⟨1, _⟩ => fun c => R1.dat (reads W) c

theorem sub1 : Pipeline.arrRefs (τ := τ) spec1 ⊆ Pipeline.ucRefs τ sig := by decide +kernel
theorem sub0 : Pipeline.arrRefs (τ := τ) spec0 ⊆ Pipeline.ucRefs τ sig := by decide +kernel

/-- The second launch between the arrays alone, from any contents `W` to contents `W'` that hold its outputs. -/
def reg1A (W W' : Dev nD → Valuation τ sig (Elt F))
    (hW' : ∀ c w, (R1.dat (reads W) c).arrAt w cfg1.N = W' c (Proc.devRef .tc (Pipeline.arrRef spec1 w))) :
    RegionSeg (pcfgs (F := F)) adm (dats W) () (defs₀ (F := F)) Variants.none L lv 1 :=
  RegionSeg.ofHeld (pcfgs (F := F)) adm (dats W) () (defs₀ (F := F)) Variants.none L lv 1 (fun _ => 0)
    (fun c => iprop(∃ r, prngReg c r)) (fun c => iprop(∃ r, prngReg c r))
    (launch1.toP (Val := Elt F)) rfl (fun c => (R1.body_obligation (F := F) (reads W) c).loose) (fun _ _ => rfl) (fun _ => rfl)
    (fun c w => (R1.dat (F := F) (reads W) c).share_full (fun _ => rfl) w)
    (fun c => R1.hin (F := F) (reads W) c) (fun c => R1.hout (F := F) (reads W) c)
    (fun _ => 0) (cut 1) (fun c => StableHlo.held (c : Thread nD τ) (Pipeline.ucRefs τ sig \ Pipeline.arrRefs spec1) (W c)) W W'
    (fun c w => R1.A_eq (F := F) (reads W) c w) hW'

/-- The second launch, from any contents `W`, to contents `W'` that hold its outputs. -/
def reg1 (W W' : Dev nD → Valuation τ sig (Elt F))
    (hW' : ∀ c w, (R1.dat (reads W) c).arrAt w cfg1.N = W' c (Proc.devRef .tc (Pipeline.arrRef spec1 w)))
    (hoff : ∀ (c : Dev nD), ∀ b ∈ Pipeline.ucRefs τ sig \ Pipeline.arrRefs spec1, W' c b = W c b) :
    RegionSeg (pcfgs (F := F)) adm (dats W) () (defs₀ (F := F)) Variants.none L lv 1 :=
  (reg1A W W' hW').conseq
    (At W) (At W')
    (fun c => by
      unfold At Rest
      rw [StableHlo.held_sub_split (c.tc : Thread nD τ) sub1 (W c)]
      dsimp only [reg1A, RegionSeg.ofHeld]
      iintro ⟨⟨Ha, Hr⟩, Hp, HO⟩
      isplitl [Ha]; · iexact Ha
      isplitl [Hp]; · iexact Hp
      isplitl [Hr]; · iexact Hr
      iexact HO)
    (fun c => by
      unfold At Rest
      rw [StableHlo.held_sub_split (c.tc : Thread nD τ) sub1 (W' c), StableHlo.held_congr (c.tc : Thread nD τ) (hoff c)]
      dsimp only [reg1A, RegionSeg.ofHeld]
      iintro ⟨Ha, Hp, Hr, HO⟩
      isplitl [Ha Hr]
      · isplitl [Ha]; · iexact Ha
        iexact Hr
      isplitl [Hp]; · iexact Hp
      iexact HO)

end Cert.KernelIdeal.Whole

end
-- ==== Proof.Whole.lean ====
/-
  The whole program's run: the host lines, the launch that decodes the scales, the host line between, the launch of the product and the last
  host lines, chained over the buffers' contents of Chain.lean. Every run ends, with the arguments as launched, every semaphore counter at
  zero, and every device buffer at the last contents for some `x` that the first launch may leave in its array.
-/
module

public import proofs.«01_k».proof.Proof.Chain
public import Idealize.ShloMosaic.Lib.HostLoop.Lifted
public import Idealize.ShloMosaic.Lib.Quiescent

@[expose] public section

noncomputable section

namespace Cert.KernelIdeal.Whole

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat RegionSeg CSeg Ticket)

variable {F : FTy → Type} [FloatOps F]

local notation "𝕄" => MT nD τ sig Unit (Elt F) ℕ UU ℕ

variable (m : (ℓ : Loc nD τ sig) → Buf (Elt F) ℓ)

/-! ## The first launch -/

/-- The launches' data where the first runs: its own held to what its body stores, the second's only typed. -/
def rds : (p : Fin 2) → (c : Dev nD) → RDat τ (Elt F) Unit ℕ UU ℕ (Pipeline.pin (pcfgs (F := F)) adm p) c
  | ⟨0, _⟩ => fun c => rd0 m c
  | ⟨1, _⟩ => fun c => (R1.dat (reads (V2 m)) c).toR

/-- The first launch's arrays at its end: at contents that its data allow, window by window. -/
theorem arraysAt0 (c : Dev nD) : ((rd0 m c).arraysAt cfg0.N : sProp 𝕄) ⊢
    iprop(∃ A : (w : Fin cfg0.W) → Buf (Elt F) ((cfg0.win w).arr.view.loc (c.tc : Thread nD τ)), ⌜∀ w, (rd0 m c).ArrAt w cfg0.N (A w)⌝ ∗ (R0.dat (reads (V2 m)) c).arrays A) := by
  unfold RDat.arraysAt Dat.arrays
  refine (BI.bigSep_exists_pi Finset.univ _).trans ?_
  iintro ⟨%A, H⟩
  ihave H' := (BI.bigSep_pure_sep Finset.univ (fun w => (rd0 m c).ArrAt w cfg0.N (A w)) _) $$ H
  icases H' with ⟨%hA, H⟩
  iexists A
  isplitr
  · ipureintro; exact fun w => hA w (Finset.mem_univ w)
  iexact H

/-- Such contents are the buffers' after the first launch, at what they have in the output's array. -/
theorem arr0_V3 (c : Dev nD) (A : (w : Fin cfg0.W) → Buf (Elt F) ((cfg0.win w).arr.view.loc (c.tc : Thread nD τ))) (hA : ∀ w, (rd0 m c).ArrAt w cfg0.N (A w)) :
    ∀ w, A w = V3 m (A 3) c (Proc.devRef .tc (Pipeline.arrRef spec0 w)) := by
  have hi (w : Fin cfg0.W) (h : (cfg0.win w).isOut = false) : A w = V2 m c (Proc.devRef .tc (Pipeline.arrRef spec0 w)) := by
    have := hA w
    rw [(rd0 m c).ArrAt_in w h] at this
    exact this.trans (R0.A_eq (F := F) (reads (V2 m)) c w)
  intro w
  match w with
  | 0 => exact (hi 0 rfl).trans (V3_of m (A 3) c main_arg4 (by decide)).symm
  | 1 => exact (hi 1 rfl).trans (V3_of m (A 3) c main_arg2 (by decide)).symm
  | 2 => exact (hi 2 rfl).trans (V3_of m (A 3) c main_v1 (by decide)).symm
  | 3 => exact (Function.update_self (Proc.devRef .tc main_v2 : DevRef τ sig) (A 3) (V2 m c)).symm

theorem off0 (x : Unk (F := F)) (c : Dev nD) : ∀ b ∈ Pipeline.ucRefs τ sig \ Pipeline.arrRefs spec0, V3 m x c b = V2 m c b := fun b hb =>
  Function.update_of_ne (fun h => (Finset.mem_sdiff.mp hb).2 (by rw [h]; decide +kernel)) _ _

/-- The first launch, from the contents after the padding of the scales to those with some `x` that it may leave. -/
def reg0 : RDat.RegionSeg (pcfgs (F := F)) adm (rds m) () (defs₀ (F := F)) Variants.none L lv 0 where
  win := (launch0.toP (Val := Elt F)).to₀.win
  block_pos := (launch0.toP (Val := Elt F)).to₀.block_pos
  stage_whole := (launch0.toP (Val := Elt F)).to₀.stage_whole
  K := PEmpty
  osem k := k.elim
  ho := Pipeline.OwnSemFacts.none _
  hbody c := (R0.body_obligation (F := F) (reads (V2 m)) c).toRRel
  hwaits c := RDat.cellsWaits_of_cut (Pipeline.pin (pcfgs (F := F)) adm) (rds m) () 0 c 0 0 (fun _ => rfl) ((cut (F := F) 0).hι c) ((cut (F := F) 0).hιb c) ((cut (F := F) 0).hD c)
  pre := At (V2 m)
  post c := iprop(∃ x, ⌜Left m x c⌝ ∗ At (V3 m x) c)
  X c := iprop(∃ r, prngReg c r)
  Y c := iprop(∃ r, prngReg c r)
  Z c := StableHlo.held (c : Thread nD τ) (Pipeline.ucRefs τ sig \ Pipeline.arrRefs spec0) (V2 m c)
  hentry c := by
    show _ ⊢ |={Set.univ}=> iprop((R0.dat (F := F) (reads (V2 m)) c).arrays (R0.dat (F := F) (reads (V2 m)) c).A ∗ Pipeline.prefHeld (pcfgs (F := F) 0).pre c (fun _ => fullShare) (adm (F := F) 0).1
        ∗ (R0.dat (F := F) (reads (V2 m)) c).owesAt () 0 ∗ _ ∗ _)
    unfold At Rest
    rw [Pipeline.prefHeld_of_none _ rfl, StableHlo.held_sub_split (c.tc : Thread nD τ) sub0 (V2 m c),
      show ((R0.dat (F := F) (reads (V2 m)) c).arrays (R0.dat (F := F) (reads (V2 m)) c).A : sProp 𝕄) = StableHlo.held (c.tc : Thread nD τ) (Pipeline.arrRefs spec0) (V2 m c) from
        Pipeline.arrays_held (pcfgs (F := F)) adm (dats (V2 m)) 0 (launch0.toP (Val := Elt F)) c (fun w => (R0.dat (F := F) (reads (V2 m)) c).share_full (fun _ => rfl) w) _ (V2 m c) (R0.A_eq (F := F) (reads (V2 m)) c)]
    iintro ⟨⟨⟨Ha, Hr⟩, Hp, HO⟩, -, -⟩
    imodintro
    isplitl [Ha]; · iexact Ha
    isplitr; · iempintro
    isplitl [HO]
    · unfold Dat.owesAt Pipeline.owesWithin Dat.bound
      icases HO with ⟨%Wd, HO⟩; iexists Wd; isplitr; · ipureintro; exact fun _ _ => Or.inl trivial
      iexact HO
    isplitl [Hp]; · iexact Hp
    iexact Hr
  hin c := by
    show _ ⊢ Pipeline.ΦA (U := UU) (Val := Elt F) spec0 c
    unfold Pipeline.ΦA
    iintro ⟨Hp, -, Hr⟩
    isplitl [Hr]; · iexact Hr
    iexact Hp
  hout c := by
    show Pipeline.ΦA (U := UU) (Val := Elt F) spec0 c ⊢ _
    unfold Pipeline.ΦA
    rw [Pipeline.ownSems0_none]
    iintro ⟨Hr, Hp⟩
    isplitl [Hp]; · iexact Hp
    isplitr; · iempintro
    iexact Hr
  hexit c := by
    show iprop((rd0 m c).arraysAt cfg0.N ∗ (R0.dat (F := F) (reads (V2 m)) c).owesAt () (Fin.last cfg0.N) ∗ _ ∗ _) ⊢ _
    iintro ⟨Ha, HO, Hp, Hr⟩
    ihave Ha := (arraysAt0 m c) $$ Ha
    icases Ha with ⟨%A, %hA, Ha⟩
    imodintro
    iexists (A 3)
    isplitr; · ipureintro; exact hA 3
    unfold At Rest
    rw [StableHlo.held_sub_split (c.tc : Thread nD τ) sub0 (V3 m (A 3) c), StableHlo.held_congr (c.tc : Thread nD τ) (off0 m (A 3) c),
      ← show ((R0.dat (F := F) (reads (V2 m)) c).arrays A : sProp 𝕄) = StableHlo.held (c.tc : Thread nD τ) (Pipeline.arrRefs spec0) (V3 m (A 3) c) from
        Pipeline.arrays_held (pcfgs (F := F)) adm (dats (V2 m)) 0 (launch0.toP (Val := Elt F)) c (fun w => (R0.dat (F := F) (reads (V2 m)) c).share_full (fun _ => rfl) w) A (V3 m (A 3) c) (arr0_V3 m c A hA)]
    isplitl [Ha Hr]
    · isplitl [Ha]; · iexact Ha
      iexact Hr
    isplitl [Hp]; · iexact Hp
    unfold Dat.owesAt Pipeline.owesWithin
    icases HO with ⟨%Wd, -, HO⟩; iexists Wd; iexact HO

/-! ## The second launch -/

theorem upd_self (W : Valuation τ sig (Elt F)) (b : DevRef τ sig) (x : b.ty.Contents (Elt F)) : Function.update W b x b = x := Function.update_self _ _ _

/-- After the second launch its outputs' arrays hold what its data say. -/
theorem V5_out4 (x : Unk (F := F)) (c : Dev nD) : V5 m x c main_v4_1 = (R1.dat (reads (V4 m x)) c).arrAt 4 cfg1.N := by
  unfold V5; exact upd_self _ (Proc.devRef .tc main_v4_1) _
theorem V5_out3 (x : Unk (F := F)) (c : Dev nD) : V5 m x c main_v4_0 = (R1.dat (reads (V4 m x)) c).arrAt 3 cfg1.N := by
  unfold V5
  rw [Function.update_of_ne (StableHlo.devRef_ne_of_ne (by decide) : (Proc.devRef .tc main_v4_0 : DevRef τ sig) ≠ Proc.devRef .tc main_v4_1)]
  exact upd_self _ (Proc.devRef .tc main_v4_0) _

theorem hW5 (x : Unk (F := F)) (c : Dev nD) (w : Fin cfg1.W) :
    (R1.dat (reads (V4 m x)) c).arrAt w cfg1.N = V5 m x c (Proc.devRef .tc (Pipeline.arrRef spec1 w)) := by
  have hi (w : Fin cfg1.W) (h : (cfg1.win w).isOut = false) : (R1.dat (reads (V4 m x)) c).arrAt w cfg1.N = V4 m x c (Proc.devRef .tc (Pipeline.arrRef spec1 w)) :=
    ((R1.dat (reads (V4 m x)) c).arrAt_in w h cfg1.N).trans (R1.A_eq (F := F) (reads (V4 m x)) c w)
  match w with
  | 0 => exact (hi 0 rfl).trans (V5_of m x c main_v3 (by decide)).symm
  | 1 => exact (hi 1 rfl).trans (V5_of m x c main_arg1 (by decide)).symm
  | 2 => exact (hi 2 rfl).trans (V5_of m x c main_v2 (by decide)).symm
  | 3 => exact (V5_out3 m x c).symm
  | 4 => exact (V5_out4 m x c).symm

theorem off5 (x : Unk (F := F)) (c : Dev nD) : ∀ b ∈ Pipeline.ucRefs τ sig \ Pipeline.arrRefs spec1, V5 m x c b = V4 m x c b := fun b hb =>
  (Function.update_of_ne (fun h => (Finset.mem_sdiff.mp hb).2 (by rw [h]; decide +kernel)) _ _).trans
    (Function.update_of_ne (fun h => (Finset.mem_sdiff.mp hb).2 (by rw [h]; decide +kernel)) _ _)

/-! ## The segments -/

/-- No host loop. -/
abbrev loops : Fin 0 → Prog (TpuEff nD τ sig (Elt F) (HostLoop.Sig (Pipeline.Sig Λ₀ (Fin 2) fun p => (pcfgs (F := F) p).Adm) 0) .tc) PUnit := fun l => l.elim0

/-- One ticket per launch. -/
abbrev tk (j : Fin 2) : Ticket (Ix := Unit) (Name := ℕ) (U := UU) (Lvl := ℕ) (nD := nD) (τ := τ) (pcfgs (F := F)) adm :=
  ⟨j, dats (V2 m), embAt j⟩

abbrev Seg : Type 1 := CSeg (Ix := Unit) (Name := ℕ) (U := UU) (Lvl := ℕ) (pcfgs (F := F)) adm defs₀ Variants.none L lv loops (tk m)

def s0 : Seg m :=
  CSeg.ofOps _ _ _ _ _ _ _ _ (Pipeline.ucRefs τ sig) hostOps0 (fun op h => Pipeline.sub_ucRefs op ((List.forall_iff_forall_mem.mp hostOps0_sub) op h))
    (fun op h => (List.forall_iff_forall_mem.mp hostOps0_fresh) op h) (V0 m) Rest
def s1 : Seg m :=
  CSeg.ofOps _ _ _ _ _ _ _ _ (Pipeline.ucRefs τ sig) hostOps0_1 (fun op h => Pipeline.sub_ucRefs op ((List.forall_iff_forall_mem.mp hostOps0_1_sub) op h))
    (fun op h => (List.forall_iff_forall_mem.mp hostOps0_1_fresh) op h) (V1 m) Rest
def s2 : Seg m :=
  CSeg.regionAtR (pcfgs (F := F)) adm () cellOf_inj defs₀ Variants.none L lv loops (tk m) 0 (rds m) (reg0 m)
def s3 : Seg m :=
  CSeg.exSel (Left m) (fun x => CSeg.ofOps _ _ _ _ _ _ _ _ (Pipeline.ucRefs τ sig) hostOps1 (fun op h => Pipeline.sub_ucRefs op ((List.forall_iff_forall_mem.mp hostOps1_sub) op h))
    (fun op h => (List.forall_iff_forall_mem.mp hostOps1_fresh) op h) (V3 m x) Rest) _ (fun _ => rfl) 0 (fun _ => le_rfl) ∅ (fun _ => rfl)
def s4 : Seg m :=
  CSeg.exSel (Left m) (fun x => CSeg.regionAt (pcfgs (F := F)) adm () cellOf_inj defs₀ Variants.none L lv loops (tk m) 1 (dats (V4 m x)) (reg1 (V4 m x) (V5 m x) (hW5 m x) (off5 m x)))
    (Prog.lift (.customCall (HostLoop.inner (Pipeline.entry 1)) ())) (fun _ => rfl) ((Pipeline.pin (pcfgs (F := F)) adm 1).tripCount + 1) (fun _ => le_rfl) {1} (fun _ => rfl)
def s5 : Seg m :=
  CSeg.exSel (Left m) (fun x => CSeg.ofOps _ _ _ _ _ _ _ _ (Pipeline.ucRefs τ sig) hostOps2 (fun op h => Pipeline.sub_ucRefs op ((List.forall_iff_forall_mem.mp hostOps2_sub) op h))
    (fun op h => (List.forall_iff_forall_mem.mp hostOps2_fresh) op h) (V5 m x) Rest) _ (fun _ => rfl) 0 (fun _ => le_rfl) ∅ (fun _ => rfl)

/-- What a run ends with. -/
def End (c : Dev nD) : sProp 𝕄 := iprop(∃ x, ⌜Left m x c⌝ ∗ StableHlo.held (c : Thread nD τ) (Pipeline.ucRefs τ sig) (V6 m x c))

theorem end_link (c : Dev nD) : (s5 m).post c ⊢ iprop(End m c ∗ ∃ W, owes (c.tc : Thread nD τ) (0 : CellTallies nD τ sig Unit) W) := by
  show iprop(∃ x, ⌜Left m x c⌝ ∗ StableHlo.held (c : Thread nD τ) (Pipeline.ucRefs τ sig) (V6 m x c) ∗ Rest c) ⊢ _
  unfold End Rest
  iintro ⟨%x, %hx, Hh, -, HO⟩
  isplitl [Hh]
  · iexists x
    isplitr; · ipureintro; exact hx
    iexact Hh
  iexact HO

/-- The lifted program is the chain of its items. -/
theorem main_chainL (c : Dev nD) : HostLoop.liftProg (L := 0) (main (F := F) c) =
    Pipeline.chain [StableHlo.seq hostOps0, StableHlo.seq hostOps0_1, Prog.lift (.customCall (HostLoop.inner (Pipeline.entry 0)) ()), StableHlo.seq hostOps1,
      Prog.lift (.customCall (HostLoop.inner (Pipeline.entry 1)) ()), StableHlo.seq hostOps2] := by
  rw [Gen.main_chain, HostLoop.liftProg_chain]
  simp only [List.map_cons, List.map_nil, HostLoop.liftProg_seq]
  rfl

/-- The launch element: the pipeline library's, one per ticket. -/
def u₀ : UU := (fun _ => initOf (Pipeline.cells cfgs cellOf_inj) (Pipeline.launchToks cfgs cellOf_inj), 1)

theorem deal : (ownU u₀ : sProp 𝕄)
    ⊢ |={Set.univ}=> iprop((bigSep Finset.univ fun j => BI.own ((tk m j).EP (initOf (Pipeline.cells (Pipeline.pin (pcfgs (F := F)) adm) cellOf_inj) (Pipeline.launchToks (Pipeline.pin (pcfgs (F := F)) adm) cellOf_inj))))
      ∗ bigSep Finset.univ fun _ : Dev nD => (BI.emp : sProp 𝕄)) := by
  have h := own_iprod (nD := nD) (τ := τ) (sig := sig) (Ix := Unit) (Val := Elt F) (Name := ℕ) (Lvl := ℕ) (J := Fin 2) (A := UR sig nD τ) (B := Counters)
    (fun _ => initOf (Pipeline.cells cfgs cellOf_inj) (Pipeline.launchToks cfgs cellOf_inj))
  have hp := ownU_pair (nD := nD) (τ := τ) (sig := sig) (Ix := Unit) (Val := Elt F) (Name := ℕ) (Lvl := ℕ) (A := IProdConst (Fin 2) (UR sig nD τ)) (B := Counters)
    (fun _ => initOf (Pipeline.cells cfgs cellOf_inj) (Pipeline.launchToks cfgs cellOf_inj)) 1
  refine hp.trans ?_
  iintro ⟨H, -⟩
  ihave H' := h $$ H
  imodintro
  isplitl [H']; · iexact H'
  rw [BI.bigSep_emp_const]
  iempintro

/-- What a core holds at launch. -/
theorem start (ρ : Dev nD → PrngReg) (c : Dev nD) :
    iprop(unscopedBufs c (fun b => m ((c.tc : Thread nD τ).loc b)) ∗ unscopedSems0 c
      ∗ owes (c.tc : Thread nD τ) (0 : CellTallies nD τ sig Unit) ∅ ∗ Pipeline.launchCred (fun _ => 0) c ∗ prngReg c (ρ c) ∗ BI.emp) ⊢ (At (V0 m) c : sProp 𝕄) := by
  unfold At Rest
  rw [← Pipeline.unscopedBufs_held (Ix := Unit) (Name := ℕ) (U := UU) (Lvl := ℕ) c (V0 m c)]
  iintro ⟨Hu, -, HO, -, Hp, -⟩
  isplitl [Hu]; · iexact Hu
  isplitl [Hp]; · iexists _; iexact Hp
  iexists _; iexact HO

set_option backward.isDefEq.respectTransparency.types false in
/-- THE RUN. From any memory with zero counters, every weakly fair execution of the program terminates without fault, with the arguments
    as launched, every counter at zero, and the device buffers at the last contents for some `x` that the first launch may leave. -/
theorem run (ρ : Dev nD → PrngReg) :
    θ_run defs (onTc (τ := τ) (main (F := F))) ⟨m, fun _ => 0, ρ⟩ (fun r =>
      (∀ c : Dev nD, ∃ x, Left m x c ∧ ∀ b ∈ Pipeline.ucRefs τ sig, r.2.mem (c, b) = V6 m x c b) ∧ r.2.sem = fun _ => 0) := by
  refine HostLoop.θ_run_of_lift (L := 0) (fun l => l.elim0) defs main _ _ ?_
  refine Pipeline.θ_run_regions_loop_kit_dev_sems (pcfgs (F := F)) adm cellOf_inj defs₀ Variants.none L lv loops (tk m) m ρ _
    (fun _ => [s0 m, s1 m, s2 m, s3 m, s4 m, s5 m])
    (fun c Q => by
      rw [main_chainL c, CSeg.runL]
      exact .rfl)
    (fun c => by
      simp only [List.pairwise_cons, List.Pairwise.nil, List.forall_mem_cons, List.mem_nil_iff,
        show (s0 m).T = ∅ from rfl, show (s1 m).T = ∅ from rfl, show (s2 m).T = {0} from rfl, show (s3 m).T = ∅ from rfl, show (s4 m).T = {1} from rfl, show (s5 m).T = ∅ from rfl,
        Finset.disjoint_empty_left, Finset.disjoint_empty_right, false_implies, implies_true, _root_.true_and, _root_.and_true]
      decide)
    (fun _ => 0) hL (fun _ => BI.emp) u₀ (deal m)
    (T₀ := At (V0 m)) (Tₙ := End m)
    (hch := fun c => ⟨.rfl, .rfl, .rfl, .rfl, .rfl, .rfl, end_link m c⟩)
    (hinit := ?_) (QY := fun c s => ∃ x, Left m x c ∧ ∀ b ∈ Pipeline.ucRefs τ sig, s.mem (c, b) = V6 m x c b)
    (hfin := fun c s' => ?_) (hQ := fun s h hz => ⟨h, sem_eq_zero_of_scoped (by decide) hz⟩)
  · iintro ⟨H, -⟩
    imodintro
    iapply (show (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ BI.emp)) ⊢ (bigSep Finset.univ (At (V0 m)) : sProp 𝕄) from
      bigSep_mono fun c _ => start m ρ c)
    iexact H
  · unfold End StableHlo.held
    iintro ⟨⟨%x, %hx, Hh⟩, HSI⟩
    ihave Hr := (pointsTo_read_all (Pipeline.ucRefs τ sig) (fun b => ((c : Thread nD τ).1, b)) (V6 m x c) s') $$ [Hh HSI]
    · isplitl [Hh] <;> iassumption
    icases Hr with ⟨%h, HSI⟩
    imodintro
    isplitr
    · ipureintro
      exact ⟨x, hx, h⟩
    · iexact HSI

end Cert.KernelIdeal.Whole

end
-- ==== Proof.Host.lean ====
module
public import proofs.«01_k».proof.Proof.Sweep
public import proofs.«01_k».proof.Proof.Result
public import proofs.«01_k».proof.Proof.Whole
@[expose] public section
noncomputable section
namespace Cert.KernelIdeal.Whole
open Cert.KernelIdeal Cert.KernelIdeal.Gen
open Idealize.ShloMosaic Idealize.ShloMosaic.TcCoe

/-- The scales, seven a row, at an index. -/
theorem sevens_apply (A3 : FVec Ideal S8064 .f32) (i : Fin 1152) (j : Fin 7) :
    (shapeCast S1152x7 A3 shapeCasts_S8064_S1152x7 : FVec Ideal S1152x7 .f32) (ix2 i j) = A3 (ix1 ⟨i.val * 7 + j.val, by have := i.isLt; have := j.isLt; omega⟩) := by
  pointwise

/-- A padded row, at one of its first seven lanes. -/
theorem pad_apply (B : FVec Ideal S1152x7 .f32) (v : FVec Ideal S_ .f32) (i : Fin 1152) (j : Fin 128) (hj : j.val < 7) :
    pad S1152x128 ![0, 0] ![0, 121] ![0, 0] B v pads_S1152x7_S1152x128_000_01210 h_S_ (ix2 i j) = B (ix2 i ⟨j.val, hj⟩) := by
  pointwise
  exact dif_pos hj

/-- The two halves set side by side, at an index. -/
theorem concat_apply (L H : FVec Ideal S8192x3584 .bf16) (i : S8192x7168.Idx) :
    concatenate S8192x7168 1 [⟨S8192x3584, L⟩, ⟨S8192x3584, H⟩] concatenates_S8192x3584_S8192x3584_S8192x7168_d1 i
      = if (i 1).val < 3584 then L (ix2 (i 0) ⟨(i 1).val % 3584, Nat.mod_lt _ (by decide)⟩) else H (ix2 (i 0) ⟨(i 1).val % 3584, Nat.mod_lt _ (by decide)⟩) := by
  have h2 : (i 1).val < 7168 := (i 1).isLt
  split
  · next h =>
    refine concatenate_pair_apply_left (s₁ := S8192x3584) (s₂ := S8192x3584) 1 L H _ i rfl _ fun b => ?_
    match b with
    | ⟨0, _⟩ => rfl
    | ⟨1, _⟩ => exact Nat.mod_eq_of_lt h
  · next h =>
    refine concatenate_pair_apply_right (s₁ := S8192x3584) (s₂ := S8192x3584) 1 L H _ i rfl rfl _ (fun b hb => ?_) ?_
    · match b with
      | ⟨0, _⟩ => rfl
      | ⟨1, _⟩ => exact absurd rfl hb
    · show (i 1).val % 3584 + 3584 = (i 1).val
      omega

/-- The rows regrouped, at an index. -/
theorem regroup_apply (R : FVec Ideal S8192x7168 .bf16) (i : S16x512x7168.Idx) :
    (shapeCast S16x512x7168 R shapeCasts_S8192x7168_S16x512x7168 : FVec Ideal S16x512x7168 .bf16) i
      = R (ix2 ⟨(i 0).val * 512 + (i 1).val, by have h0 : (i 0).val < 16 := (i 0).isLt; have h1 : (i 1).val < 512 := (i 1).isLt; omega⟩ (i 2)) := by
  pointwise

/-- The two halves set side by side and regrouped, at an index. -/
theorem joined_apply (L H : FVec Ideal S8192x3584 .bf16) (i : S16x512x7168.Idx) :
    (shapeCast S16x512x7168 (concatenate S8192x7168 1 [⟨S8192x3584, L⟩, ⟨S8192x3584, H⟩] concatenates_S8192x3584_S8192x3584_S8192x7168_d1) shapeCasts_S8192x7168_S16x512x7168 : FVec Ideal S16x512x7168 .bf16) i
      = if (i 2).val < 3584 then L (ix2 ⟨(i 0).val * 512 + (i 1).val, by have h0 : (i 0).val < 16 := (i 0).isLt; have h1 : (i 1).val < 512 := (i 1).isLt; omega⟩ ⟨(i 2).val % 3584, Nat.mod_lt _ (by decide)⟩)
        else H (ix2 ⟨(i 0).val * 512 + (i 1).val, by have h0 : (i 0).val < 16 := (i 0).isLt; have h1 : (i 1).val < 512 := (i 1).isLt; omega⟩ ⟨(i 2).val % 3584, Nat.mod_lt _ (by decide)⟩) :=
  (regroup_apply _ i).trans (concat_apply L H _)

/-- The host lines, over any contents of the buffers. -/
theorem ops0_v0 (W : Valuation τ sig (Elt Ideal)) : (StableHlo.after hostOps0 W main_v0 : FVec Ideal S1152x7 .f32) = shapeCast S1152x7 (W main_arg3 : FVec Ideal S8064 .f32) shapeCasts_S8064_S1152x7 := rfl
theorem ops0_1_gen (g : FVec Ideal S1152x7 .f32 → FVec Ideal S_ .f32 → FVec Ideal S1152x128 .f32) (s : IVec S_ 32 → FVec Ideal S_ .f32) (W : Valuation τ sig (Elt Ideal)) :
    (StableHlo.after [StableHlo.TRef.unary (.of main_c : StableHlo.TRef sig ⟨S_, .i32⟩) (.of main_call0_v0 : StableHlo.TRef sig ⟨S_, .f32⟩) s,
      StableHlo.TRef.binary (.of main_v0 : StableHlo.TRef sig ⟨S1152x7, .f32⟩) (.of main_call0_v0 : StableHlo.TRef sig ⟨S_, .f32⟩) (.of main_v1 : StableHlo.TRef sig ⟨S1152x128, .f32⟩) g] W main_v1 : FVec Ideal S1152x128 .f32)
    = g (W main_v0) (s (W main_c)) := rfl
theorem ops1_v3 (W : Valuation τ sig (Elt Ideal)) : (StableHlo.after hostOps1 W main_v3 : S8192x18432.Idx → Ideal .bf16) = shapeCast S8192x18432 (W main_arg0 : FVec Ideal S16x512x18432 .bf16) shapeCasts_S16x512x18432_S8192x18432 := rfl
theorem ops2_gen (f : FVec Ideal S8192x3584 .bf16 → FVec Ideal S8192x3584 .bf16 → FVec Ideal S8192x7168 .bf16) (W : Valuation τ sig (Elt Ideal)) :
    (StableHlo.after [StableHlo.binary main_v4_0 main_v4_1 main_v5 f, StableHlo.reshape main_v5 main_v6 (rfl : (.bf16 : EltTy) = .bf16) shapeCasts_S8192x7168_S16x512x7168] W main_v6 : FVec Ideal S16x512x7168 .bf16)
    = shapeCast S16x512x7168 (f (W main_v4_0) (W main_v4_1)) shapeCasts_S8192x7168_S16x512x7168 := rfl

variable (m : (ℓ : Loc nD τ sig) → Buf (Elt Ideal) ℓ)

/-- The first launch finds the scales, seven a row, at its rows' first seven lanes. -/
theorem V2_v1 (c : Dev nD) (i : Fin 1152) (j : Fin 128) (hj : j.val < 7) :
    (V2 m c main_v1 : S1152x128.Idx → Ideal .f32) (ix2 i j) = (m ((c : Thread nD τ).loc main_arg3) : S8064.Idx → Ideal .f32) (ix1 ⟨i.val * 7 + j.val, by have := i.isLt; omega⟩) := by
  refine (congrFun (ops0_1_gen (fun x v => pad S1152x128 ![0, 0] ![0, 121] ![0, 0] x v pads_S1152x7_S1152x128_000_01210 h_S_) (sitofp .f32) (V1 m c)) _).trans ?_
  refine (pad_apply _ _ i j hj).trans ?_
  refine (congrFun (ops0_v0 (V0 m c)) _).trans ?_
  exact sevens_apply _ i ⟨j.val, hj⟩

/-- The second launch finds the activations flattened to 8192 rows, -/
theorem V4_v3 (x : Unk (F := Ideal)) (c : Dev nD) : (V4 m x c main_v3 : S8192x18432.Idx → Ideal .bf16) = Nf4.rows (m ((c : Thread nD τ).loc main_arg0)) := by
  refine (ops1_v3 (V3 m x c)).trans ?_
  rw [V3_of m x c main_arg0 (by decide), V2_args m c main_arg0 (by decide)]
  exact R1.rows_eq _

/-- and what the first launch left. -/
theorem V4_v2 (x : Unk (F := Ideal)) (c : Dev nD) : V4 m x c main_v2 = x := by
  rw [V4_of m x c main_v2 (by decide)]
  exact Function.update_self ..

/-- The result, of what the first launch left. -/
theorem V6_v6 (x : Unk (F := Ideal)) (c : Dev nD) :
    (V6 m x c main_v6 : S16x512x7168.Idx → Ideal .bf16) = Nf4.result (m ((c : Thread nD τ).loc main_arg0)) (m ((c : Thread nD τ).loc main_arg1)) x := by
  refine (ops2_gen (fun a b => concatenate S8192x7168 1 [⟨S8192x3584, a⟩, ⟨S8192x3584, b⟩] concatenates_S8192x3584_S8192x3584_S8192x7168_d1) (V5 m x c)).trans ?_
  funext i
  have h2 : (i 2).val < 7168 := (i 2).isLt
  refine (joined_apply _ _ i).trans ?_
  have ev : reads (V4 m x) c main_v3 = Nf4.rows (m ((c : Thread nD τ).loc main_arg0)) := V4_v3 m x c
  have e1 : reads (V4 m x) c main_arg1 = m ((c : Thread nD τ).loc main_arg1) := V4_args m x c main_arg1 (by decide)
  have e2 : reads (V4 m x) c main_v2 = x := V4_v2 m x c
  have el := (V5_out3 m x c).trans (R1.arr3_eq (reads (V4 m x)) c)
  have eh := (V5_out4 m x c).trans (R1.arr4_eq (reads (V4 m x)) c)
  rw [ev, e1, e2] at el eh
  rw [el, eh]
  unfold Nf4.result
  split
  · next h => exact congrArg₂ (fun a z => Nf4.dx _ _ _ a (ix2 z _)) (Fin.ext (by show 0 = (i 2).val / 3584; omega)) (Fin.ext (by show (i 0).val * 512 + (i 1).val = 512 * (i 0).val + (i 1).val; omega))
  · next h => exact congrArg₂ (fun a z => Nf4.dx _ _ _ a (ix2 z _)) (Fin.ext (by show 1 = (i 2).val / 3584; omega)) (Fin.ext (by show (i 0).val * 512 + (i 1).val = 512 * (i 0).val + (i 1).val; omega))

end Cert.KernelIdeal.Whole
end
-- ==== Proof.Final.lean ====
module
public import proofs.«01_k».proof.Proof.Abs
public import proofs.«01_k».proof.Proof.Host
@[expose] public section
noncomputable section
namespace Cert.KernelIdeal.Whole
open Cert.KernelIdeal Cert.KernelIdeal.Gen
open Idealize.ShloMosaic Idealize.ShloMosaic.TcCoe

variable (m : (ℓ : Loc nD τ sig) → Buf (Elt Ideal) ℓ)

/-- The absmax values decoded from the program's arguments. -/
abbrev absOf (c : Dev nD) : S18432x128.Idx → Ideal .bf16 :=
  Nf4.absArr (m ((c : Thread nD τ).loc main_arg2)) (m ((c : Thread nD τ).loc main_arg3)) (m ((c : Thread nD τ).loc main_arg4))

/-- A row's sixteenth and lane, as places in the flat scales. -/
theorem scale_at (r l : ℕ) : (288 * (r / 4608) + r % 4608 / 16) * 7 + (r % 4608 % 16 * 112 + l) / 256 = (112 * r + l) / 256 := by
  omega

/-- Whatever the first launch leaves holds the decoded absmax values in its first 112 lanes. -/
theorem left_abs (c : Dev nD) (x : Unk (F := Ideal)) (h : Left m x c) (z : S18432x128.Idx) (hz : (z 1).val < 112) :
    (x : S18432x128.Idx → Ideal .bf16) z = absOf m c z := by
  have hr : (z 0).val < 18432 := (z 0).isLt
  refine (R0.left_eq (reads (V2 m)) c x h z hz).trans ?_
  have e0 : (R0.iblk (reads (V2 m)) c 0 (R0.ptOf z) : S1.Idx → Ideal .f32) (ix1 0) = (m ((c : Thread nD τ).loc main_arg4) : S1.Idx → Ideal .f32) (ix1 0) :=
    (R0.iblk0_apply _ c _).trans (congrFun (V2_args m c main_arg4 (by decide)) _)
  have e1 : (R0.iblk (reads (V2 m)) c 1 (R0.ptOf z) : S4608x112.Idx → BitVec 8) (ix2 ⟨(z 0).val % 4608, Nat.mod_lt _ (by decide)⟩ ⟨(z 1).val % 112, Nat.mod_lt _ (by decide)⟩)
      = (m ((c : Thread nD τ).loc main_arg2) : S18432x112.Idx → BitVec 8) (ix2 (z 0) ⟨(z 1).val % 112, Nat.mod_lt _ (by decide)⟩) :=
    (R0.iblk1_apply (reads (V2 m)) c (R0.ptOf z) (ix2 ⟨(z 0).val % 4608, Nat.mod_lt _ (by decide)⟩ ⟨(z 1).val % 112, Nat.mod_lt _ (by decide)⟩) (ix2 (z 0) ⟨(z 1).val % 112, Nat.mod_lt _ (by decide)⟩) (Nat.div_add_mod (z 0).val 4608).symm rfl).trans
      (congrFun (V2_args m c main_arg2 (by decide)) _)
  have hl : (z 0).val % 4608 % 16 * 112 + (z 1).val % 112 < 1792 := by omega
  have hj : ((z 0).val % 4608 % 16 * 112 + (z 1).val % 112) / 256 < 7 := by omega
  have e2 : (R0.iblk (reads (V2 m)) c 2 (R0.ptOf z) : S288x128.Idx → Ideal .f32)
        (ix2 ⟨(z 0).val % 4608 / 16, by omega⟩ ⟨((z 0).val % 4608 % 16 * 112 + (z 1).val % 112) / 256, by omega⟩)
      = (m ((c : Thread nD τ).loc main_arg3) : S8064.Idx → Ideal .f32) (ix1 ⟨(112 * (z 0).val + (z 1).val % 112) / 256, by omega⟩) := by
    refine (R0.iblk2_apply (reads (V2 m)) c (R0.ptOf z) _ (ix2 ⟨288 * ((z 0).val / 4608) + (z 0).val % 4608 / 16, by omega⟩ ⟨((z 0).val % 4608 % 16 * 112 + (z 1).val % 112) / 256, by omega⟩) rfl rfl).trans ?_
    refine (V2_v1 m c _ _ hj).trans ?_
    exact congrArg (fun k => (m ((c : Thread nD τ).loc main_arg3) : S8064.Idx → Ideal .f32) (ix1 k)) (Fin.ext (scale_at (z 0).val ((z 1).val % 112)))
  exact congrArg₂ (fun (a b : Ideal .f32) => a + b) (congrArg₂ (fun (a b : Ideal .f32) => a * b) (congrArg Nf4.q8 e1) e2) e0

/-- The program's result: the activations times the weights, dequantised with the decoded absmax values. -/
theorem V6_result (c : Dev nD) (x : Unk (F := Ideal)) (h : Left m x c) :
    (V6 m x c main_v6 : S16x512x7168.Idx → Ideal .bf16) = Nf4.result (m ((c : Thread nD τ).loc main_arg0)) (m ((c : Thread nD τ).loc main_arg1)) (absOf m c) := by
  refine (V6_v6 m x c).trans (funext fun i => ?_)
  exact congrFun (Nf4.dx_congr _ _ _ _ _ (left_abs m c x h)) _

end Cert.KernelIdeal.Whole
end
-- ==== Proof.Same.lean ====
module

public import proofs.«01_k».proof.Proof.Gen.Kernel
public import proofs.«01_k».proof.Proof.Gen.Kernel.Launch
public import proofs.«01_k».proof.Proof.Gen.KernelIdeal
public import proofs.«01_k».proof.Proof.Whole

@[expose] public section

noncomputable section

namespace Cert.Same

open Idealize.ShloMosaic Idealize.ShloMosaic.TcCoe
open Idealize.SL Idealize.SL.RA Idealize.SL.BI Idealize.SL.Sem

variable {F : FTy → Type} [FloatOps F]

/-- Both programs pipeline the same two launches. -/
theorem pcfgs_eq : @Cert.Kernel.pcfgs F Cert.Kernel.Gen.facts = @Cert.KernelIdeal.pcfgs F Cert.KernelIdeal.Gen.facts := by
  funext p
  match p with
  | 0 => rfl
  | 1 => rfl
  | ⟨_ + 2, h⟩ => exact absurd h (Nat.not_lt.2 (Nat.le_add_left _ _))

/-- Both programs' kernel bodies are the same. -/
theorem d0_eq : @Cert.Kernel.defs₀ F _ Cert.Kernel.Gen.facts = @Cert.KernelIdeal.defs₀ F _ Cert.KernelIdeal.Gen.facts := by
  refine congrArg (fun D => (Defs.onTc D : Defs Cert.KernelIdeal.nD Cert.KernelIdeal.τ Cert.KernelIdeal.sig (Elt F) Cert.KernelIdeal.Λ₀)) ?_
  funext ℓ a
  match ℓ, a with
  | 0, (t, s) => rfl
  | 1, (t, s) => rfl
  | ⟨_ + 2, h⟩, _ => exact absurd h (Nat.not_lt.2 (Nat.le_add_left _ _))

open Cert.KernelIdeal Cert.KernelIdeal.Gen in
/-- The program over its pipelines and bodies. -/
def prog (F : FTy → Type) [FloatOps F] (pc : Fin 2 → Pipeline.PCfg sig Λ₀ (Elt F)) : Prog (TpuEff nD τ sig (Elt F) (Pipeline.Sig Λ₀ (Fin 2) fun p => (pc p).Adm) .tc) PUnit :=
  Pipeline.chain
  [ StableHlo.seq hostOps0,
    StableHlo.seq hostOps0_1,
    Prog.lift (.customCall (Pipeline.entry 0) ()),
    StableHlo.seq hostOps1,
    Prog.lift (.customCall (Pipeline.entry 1) ()),
    StableHlo.seq hostOps2 ]

open Cert.KernelIdeal Cert.KernelIdeal.Gen in
theorem prog_run (pc : Fin 2 → Pipeline.PCfg sig Λ₀ (Elt F)) (d : Defs nD τ sig (Elt F) Λ₀) (hp : pc = pcfgs) (hd : d = defs₀)
    (m : (ℓ : Loc nD τ sig) → Buf (Elt F) ℓ) (ρ : Dev nD → PrngReg) :
    θ_run (Pipeline.defs pc d) (onTc (τ := τ) fun _ => prog F pc) ⟨m, fun _ => 0, ρ⟩ (fun r =>
      (∀ c : Dev nD, ∃ x, Whole.Left m x c ∧ ∀ b ∈ Pipeline.ucRefs τ sig, r.2.mem (c, b) = Whole.V6 m x c b) ∧ r.2.sem = fun _ => 0) := by
  subst hp
  subst hd
  have e : (fun c => main (F := F) c) = fun _ : Dev nD => prog F pcfgs := funext fun c => main_chain (F := F) c
  have h := Whole.run m ρ
  rw [show (main (F := F)) = fun _ : Dev nD => prog F pcfgs from e] at h
  exact h

theorem kmain_eq : (fun c => Cert.Kernel.main (F := F) c) = fun _ : Dev Cert.KernelIdeal.nD => prog F Cert.Kernel.pcfgs :=
  funext fun c => Cert.Kernel.Gen.main_chain (F := F) c

/-- The whole run of `Kernel`, as of `KernelIdeal`. -/
theorem run (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r =>
      (∀ c : Dev Cert.KernelIdeal.nD, ∃ x, Cert.KernelIdeal.Whole.Left m x c ∧ ∀ b ∈ Pipeline.ucRefs Cert.KernelIdeal.τ Cert.KernelIdeal.sig, r.2.mem (c, b) = Cert.KernelIdeal.Whole.V6 m x c b) ∧ r.2.sem = fun _ => 0) := by
  rw [show (Cert.Kernel.main (F := F)) = fun _ : Dev Cert.KernelIdeal.nD => prog F Cert.Kernel.pcfgs from kmain_eq]
  exact prog_run Cert.Kernel.pcfgs Cert.Kernel.defs₀ pcfgs_eq d0_eq m ρ

end Cert.Same

end
-- ==== Proof.Ref.lean ====
module
public import proofs.«01_k».proof.Proof.Gen.ReferenceIdeal.Run
public import proofs.«01_k».proof.Proof.Result
@[expose] public section
noncomputable section
namespace Cert.ReferenceIdeal.Value
open Cert.ReferenceIdeal Cert.ReferenceIdeal.Gen Idealize.ShloMosaic Idealize.ShloMosaic.TcCoe Idealize.SL.Sem

/-- The two halves set side by side, at an index. -/
theorem concat_apply (L H : FVec Ideal S16x512x3584 .f32) (i : S16x512x7168.Idx) :
    (truncf .bf16 (concatenate S16x512x7168 2 [⟨S16x512x3584, L⟩, ⟨S16x512x3584, H⟩] concatenates_S16x512x3584_S16x512x3584_S16x512x7168_d2) bitsLt_bf16_f32 : FVec Ideal S16x512x7168 .bf16) i
      = if (i 2).val < 3584 then L (ix3 (i 0) (i 1) ⟨(i 2).val % 3584, Nat.mod_lt _ (by decide)⟩) else H (ix3 (i 0) (i 1) ⟨(i 2).val % 3584, Nat.mod_lt _ (by decide)⟩) := by
  have h2 : (i 2).val < 7168 := (i 2).isLt
  show concatenate S16x512x7168 2 [⟨S16x512x3584, L⟩, ⟨S16x512x3584, H⟩] concatenates_S16x512x3584_S16x512x3584_S16x512x7168_d2 i = _
  split
  · next h =>
    refine concatenate_pair_apply_left (s₁ := S16x512x3584) (s₂ := S16x512x3584) 2 L H _ i rfl _ fun b => ?_
    match b with
    | ⟨0, _⟩ => rfl
    | ⟨1, _⟩ => rfl
    | ⟨2, _⟩ => exact Nat.mod_eq_of_lt h
  · next h =>
    refine concatenate_pair_apply_right (s₁ := S16x512x3584) (s₂ := S16x512x3584) 2 L H _ i rfl rfl _ (fun b hb => ?_) ?_
    · match b with
      | ⟨0, _⟩ => rfl
      | ⟨1, _⟩ => rfl
      | ⟨2, _⟩ => exact absurd rfl hb
    · show (i 2).val % 3584 + 3584 = (i 2).val
      omega

/-- One half's product, at an index. -/
theorem dot_apply (A : FVec Ideal S16x512x18432 .bf16) (W : FVec Ideal S18432x3584 .bf16) (i : S16x512x3584.Idx) :
    (Host.dotGeneral dot_S16x512x18432_S18432x3584_S16x512x3584_2_0_01_1_n_n none A W : FVec Ideal S16x512x3584 .f32) i = ∑ k : Fin 18432, A (ix3 (i 0) (i 1) k) * W (ix2 k (i 2)) := by
  pointwise

/-- The blocks' scaling, at an index. -/
theorem weight_apply (S : FVec Ideal S18432x3584 .bf16) (Y : FVec Ideal S18432x56x64 .bf16) (k : Fin 18432) (j : Fin 3584) :
    (shapeCast S18432x3584 (mulf (shapeCast S18432x56x64 S shapeCasts_S18432x3584_S18432x56x64) Y) shapeCasts_S18432x56x64_S18432x3584 : FVec Ideal S18432x3584 .bf16) (ix2 k j)
      = S (ix2 k j) * Y (ix3 k ⟨j.val / 64, Nat.div_lt_of_lt_mul j.isLt⟩ ⟨j.val % 64, Nat.mod_lt _ (by decide)⟩) := by
  pointwise

/-- The low half's absmax spread over its blocks, at an index. -/
theorem spread_lo (B : FVec Ideal S18432x112 .bf16) (k : Fin 18432) (b : Fin 56) (e : Fin 64) :
    (broadcastInDim S18432x56x64 ![0, 1, 2] bcast_S18432x56x1_S18432x56x64_0_1_2 (broadcastInDim S18432x56x1 ![0, 1] bcast_S18432x56_S18432x56x1_0_1 (extractStridedSlice S18432x56 ![0, 0] B slices_S18432x112_S18432x56_0_0)) : FVec Ideal S18432x56x64 .bf16) (ix3 k b e)
      = B (ix2 k ⟨b.val, by have := b.isLt; omega⟩) := by
  pointwise

/-- The high half's absmax spread over its blocks, at an index. -/
theorem spread_hi (B : FVec Ideal S18432x112 .bf16) (k : Fin 18432) (b : Fin 56) (e : Fin 64) :
    (broadcastInDim S18432x56x64 ![0, 1, 2] bcast_S18432x56x1_S18432x56x64_0_1_2 (broadcastInDim S18432x56x1 ![0, 1] bcast_S18432x56_S18432x56x1_0_1 (extractStridedSlice S18432x56 ![0, 56] B slices_S18432x112_S18432x56_0_56)) : FVec Ideal S18432x56x64 .bf16) (ix3 k b e)
      = B (ix2 k ⟨56 + b.val, by have := b.isLt; omega⟩) := by
  pointwise

/-- The scale codes' groups, at an index. -/
theorem group_apply (Q : FVec Ideal S18432x112 .f32) (g : Fin 8064) (e : Fin 256) :
    (shapeCast S8064x256 Q shapeCasts_S18432x112_S8064x256 : FVec Ideal S8064x256 .f32) (ix2 g e)
      = Q (ix2 ⟨(g.val * 256 + e.val) / 112, by have := g.isLt; have := e.isLt; omega⟩ ⟨(g.val * 256 + e.val) % 112, Nat.mod_lt _ (by decide)⟩) := by
  pointwise

/-- The groups flattened back, at an index. -/
theorem ungroup_apply (D : FVec Ideal S8064x256 .f32) (r : Fin 18432) (b : Fin 112) :
    (shapeCast S18432x112 D shapeCasts_S8064x256_S18432x112 : FVec Ideal S18432x112 .f32) (ix2 r b)
      = D (ix2 ⟨(r.val * 112 + b.val) / 256, by have := r.isLt; have := b.isLt; omega⟩ ⟨(r.val * 112 + b.val) % 256, Nat.mod_lt _ (by decide)⟩) := by
  pointwise

/-- The scales and the offset spread over the groups, at an index. -/
theorem scales_apply (A3 : FVec Ideal S8064 .f32) (g : Fin 8064) (e : Fin 256) :
    (broadcastInDim S8064x256 ![0, 1] bcast_S8064x1_S8064x256_0_1 (broadcastInDim S8064x1 ![0] bcast_S8064_S8064x1_0 A3) : FVec Ideal S8064x256 .f32) (ix2 g e) = A3 (ix1 g) := by
  pointwise
theorem offset_apply (A4 : FVec Ideal S1 .f32) (g : Fin 8064) (e : Fin 256) :
    (broadcastInDim S8064x256 ![] bcast_S_S8064x256 (shapeCast S_ A4 shapeCasts_S1_S_) : FVec Ideal S8064x256 .f32) (ix2 g e) = A4 (ix1 0) := by
  pointwise

/-- Rounding to the narrower type keeps the ideal value. -/
theorem trunc_at (X : FVec Ideal S18432x112 .f32) (z : S18432x112.Idx) (w : Ideal .f32) (h : X z = w) :
    (truncf .bf16 X bitsLt_bf16_f32 : FVec Ideal S18432x112 .bf16) z = w := h

/-- The decoded absmax values, at an index. -/
theorem absmax_apply (A2 : Vec Ideal S18432x112 .i8) (A3 : FVec Ideal S8064 .f32) (A4 : FVec Ideal S1 .f32) (r : Fin 18432) (b : Fin 112) :
    (truncf .bf16 (shapeCast S18432x112 (addf (mulf (shapeCast S8064x256 (sitofp .f32 (extsi 32 A2 natLt_8_32)) shapeCasts_S18432x112_S8064x256) (broadcastInDim S8064x256 ![0, 1] bcast_S8064x1_S8064x256_0_1 (broadcastInDim S8064x1 ![0] bcast_S8064_S8064x1_0 A3))) (broadcastInDim S8064x256 ![] bcast_S_S8064x256 (shapeCast S_ A4 shapeCasts_S1_S_))) shapeCasts_S8064x256_S18432x112) bitsLt_bf16_f32 : FVec Ideal S18432x112 .bf16) (ix2 r b)
      = Nf4.absmax A2 A3 A4 r b := by
  have hr := r.isLt
  have hb := b.isLt
  refine trunc_at _ _ _ ?_
  refine (ungroup_apply _ r b).trans ?_
  unfold Nf4.absmax
  refine congrArg₂ (fun u v : Ideal .f32 => u + v) (congrArg₂ (fun u v : Ideal .f32 => u * v) ?_ ?_) (offset_apply A4 _ _)
  · refine (group_apply _ _ _).trans ?_
    have e : (ix2 ⟨((r.val * 112 + b.val) / 256 * 256 + (r.val * 112 + b.val) % 256) / 112, by omega⟩ ⟨((r.val * 112 + b.val) / 256 * 256 + (r.val * 112 + b.val) % 256) % 112, Nat.mod_lt _ (by decide)⟩ : S18432x112.Idx) = ix2 r b :=
      congrArg₂ ix2 (Fin.ext (by show ((r.val * 112 + b.val) / 256 * 256 + (r.val * 112 + b.val) % 256) / 112 = r.val; omega)) (Fin.ext (by show ((r.val * 112 + b.val) / 256 * 256 + (r.val * 112 + b.val) % 256) % 112 = b.val; omega))
    refine (congrArg (sitofp .f32 (extsi 32 A2 natLt_8_32) : FVec Ideal S18432x112 .f32) e).trans ?_
    show FloatOps.sitofp (F := Ideal) .f32 ((A2 (ix2 r b)).signExtend 32) = FloatOps.sitofp .f32 (A2 (ix2 r b))
    exact congrArg (fun z : ℤ => ((z : ℝ) : EReal)) (BitVec.toInt_signExtend_of_le (x := A2 (ix2 r b)) (v := 32) (by decide))
  · refine (scales_apply A3 _ _).trans (congrArg (fun z => A3 (ix1 z)) (Fin.ext ?_))
    show (r.val * 112 + b.val) / 256 = (112 * r.val + b.val) / 256
    rw [Nat.mul_comm]

set_option maxRecDepth 8192 in
set_option maxHeartbeats 4000000 in
/-- The reference's result: the activations times the dequantised weights. -/
theorem res_main_v93_eq (m : (ℓ : Loc nD τ sig) → Buf (Elt Ideal) ℓ) (c : Dev nD) :
    (res_main_v93 m c : S16x512x7168.Idx → Ideal .bf16) = Nf4.result (m (c.tc.loc main_arg0)) (m (c.tc.loc main_arg1)) (Nf4.absArr (m (c.tc.loc main_arg2)) (m (c.tc.loc main_arg3)) (m (c.tc.loc main_arg4))) := by
  funext i
  have h0 : (i 0).val < 16 := (i 0).isLt
  have h1 : (i 1).val < 512 := (i 1).isLt
  have h2 : (i 2).val < 7168 := (i 2).isLt
  have hA : ∀ k : Fin 18432, (m (c.tc.loc main_arg0) : FVec Ideal S16x512x18432 .bf16) (ix3 (i 0) (i 1) k) = Nf4.rows (m (c.tc.loc main_arg0)) (ix2 ⟨512 * (i 0).val + (i 1).val, by omega⟩ k) := by
    intro k
    unfold Nf4.rows
    refine congrArg₂ (fun a b => (m (c.tc.loc main_arg0) : FVec Ideal S16x512x18432 .bf16) (ix3 a b k)) (Fin.ext ?_) (Fin.ext ?_)
    · show (i 0).val = (512 * (i 0).val + (i 1).val) / 512
      omega
    · show (i 1).val = (512 * (i 0).val + (i 1).val) % 512
      omega
  unfold res_main_v93
  refine (concat_apply _ _ i).trans ?_
  unfold Nf4.result Nf4.dx Nf4.wgt
  split
  · next hc =>
    have hq : (i 2).val / 3584 = 0 := by omega
    have hd : (i 2).val % 3584 / 64 < 56 := by omega
    refine (dot_apply _ _ _).trans (Finset.sum_congr (M := Ideal .bf16) rfl fun k _ => ?_)
    refine congrArg₂ (fun u v : Ideal .bf16 => u * v) (hA k) ?_
    refine (weight_apply _ _ k _).trans ?_
    refine congrArg₂ (fun u v : Ideal .bf16 => u * v) ?_ ?_
    · pointwise
      exact (Nf4.nf4_lo32 ((m (c.tc.loc main_arg1) : Vec Ideal S18432x3584 .i8) (ix2 k ⟨(i 2).val % 3584, Nat.mod_lt _ (by decide)⟩))).trans (congrArg (fun h => Nf4.nib h _) hq.symm)
    · refine ((spread_lo _ k _ _).trans (absmax_apply _ _ _ k _)).trans ?_
      unfold Nf4.absArr
      refine congrArg (Nf4.absmax _ _ _ k) (Fin.ext ?_)
      show (i 2).val % 3584 / 64 = (56 * ((i 2).val / 3584) + (i 2).val % 3584 / 64) % 128 % 112
      rw [hq]
      generalize (i 2).val % 3584 / 64 = d at hd
      omega
  · next hc =>
    have hq : (i 2).val / 3584 = 1 := by omega
    have hd : (i 2).val % 3584 / 64 < 56 := by omega
    refine (dot_apply _ _ _).trans (Finset.sum_congr (M := Ideal .bf16) rfl fun k _ => ?_)
    refine congrArg₂ (fun u v : Ideal .bf16 => u * v) (hA k) ?_
    refine (weight_apply _ _ k _).trans ?_
    refine congrArg₂ (fun u v : Ideal .bf16 => u * v) ?_ ?_
    · pointwise
      exact (Nf4.nf4_hi32 ((m (c.tc.loc main_arg1) : Vec Ideal S18432x3584 .i8) (ix2 k ⟨(i 2).val % 3584, Nat.mod_lt _ (by decide)⟩))).trans (congrArg (fun h => Nf4.nib h _) hq.symm)
    · refine ((spread_hi _ k _ _).trans (absmax_apply _ _ _ k _)).trans ?_
      unfold Nf4.absArr
      refine congrArg (Nf4.absmax _ _ _ k) (Fin.ext ?_)
      show 56 + (i 2).val % 3584 / 64 = (56 * ((i 2).val / 3584) + (i 2).val % 3584 / 64) % 128 % 112
      rw [hq]
      generalize (i 2).val % 3584 / 64 = d at hd
      omega

end Cert.ReferenceIdeal.Value
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Final
public import proofs.«01_k».proof.Proof.Same
public import proofs.«01_k».proof.Proof.Ref
public import Idealize.ShloMosaic.Lib.Quiescent
public import Idealize.ShloMosaic.Adequacy
public import Idealize.ShloMosaic.Init

@[expose] public section

noncomputable section

namespace Cert.Proof

open Idealize.ShloMosaic Idealize.SL.Sem Cert.KernelIdeal

/-- An argument array ends as it began. -/
theorem arg {F : FTy → Type} [FloatOps F] {m mem : (ℓ : Loc nD τ sig) → Buf (Elt F) ℓ} {x : Cert.KernelIdeal.Whole.Unk (F := F)} {c : Dev nD}
    (hb : ∀ b ∈ Pipeline.ucRefs τ sig, mem (c, b) = Cert.KernelIdeal.Whole.V6 m x c b) (a : Ref sig .tc) (ha : a ∈ Cert.KernelIdeal.Whole.argRefs)
    (hs : (Proc.devRef .tc a : DevRef τ sig).isScoped = false) : mem ((c.tc : Thread nD τ).loc a) = m ((c.tc : Thread nD τ).loc a) :=
  (hb (Proc.devRef .tc a) (Finset.mem_filter.mpr ⟨StableHlo.devRef_mem_tcRefs a, by simp [hs]⟩)).trans (Cert.KernelIdeal.Whole.V6_args m x c a ha)

/-- The kernel's frame, from its run at the machine's floats. -/
theorem frame_kernel : Cert.quiescent_Kernel (hKernel := Cert.Kernel.Gen.facts) := by
  intro m ρ _
  refine (θ_run Cert.Kernel.defs _ _).mono (fun r h => ⟨fun c => ?_, h.2⟩) (Cert.Same.run (F := Bits) m ρ)
  obtain ⟨x, -, hb⟩ := h.1 c
  exact ⟨arg hb main_arg0 (by decide) (by decide), arg hb main_arg1 (by decide) (by decide), arg hb main_arg2 (by decide) (by decide),
    arg hb main_arg3 (by decide) (by decide), arg hb main_arg4 (by decide) (by decide)⟩

/-- The ideal kernel's. -/
theorem frame_ideal : Cert.quiescent_KernelIdeal (hKernelIdeal := Cert.KernelIdeal.Gen.facts) := by
  intro m ρ _
  refine (θ_run Cert.KernelIdeal.defs _ _).mono (fun r h => ⟨fun c => ?_, h.2⟩) (Cert.KernelIdeal.Whole.run (F := Ideal) m ρ)
  obtain ⟨x, -, hb⟩ := h.1 c
  exact ⟨arg hb main_arg0 (by decide) (by decide), arg hb main_arg1 (by decide) (by decide), arg hb main_arg2 (by decide) (by decide),
    arg hb main_arg3 (by decide) (by decide), arg hb main_arg4 (by decide) (by decide)⟩

/-- The reference's frame: its run keeps the arguments, and it declares no semaphore. -/
theorem frame_ref : Cert.quiescent_ReferenceIdeal (hReferenceIdeal := Cert.ReferenceIdeal.Gen.facts) := by
  intro m ρ _
  exact (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The kernel's result is the reference's over the reals. -/
theorem algebraic : Cert.algebraic_KernelIdeal_ReferenceIdeal (hKernelIdeal := Cert.KernelIdeal.Gen.facts) (hReferenceIdeal := Cert.ReferenceIdeal.Gen.facts) := by
  intro m ρ m' ρ' _ hagree
  refine ⟨fun c => Nf4.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (Cert.KernelIdeal.Whole.absOf m c), ?_, ?_⟩
  · refine (θ_run Cert.KernelIdeal.defs _ _).mono (fun r h c => ?_) (Cert.KernelIdeal.Whole.run (F := Ideal) m ρ)
    obtain ⟨x, hx, hb⟩ := h.1 c
    exact ⟨(hb (Proc.devRef .tc Cert.KernelIdeal.main_v6) (Finset.mem_filter.mpr ⟨StableHlo.devRef_mem_tcRefs Cert.KernelIdeal.main_v6, by decide⟩)).trans (Cert.KernelIdeal.Whole.V6_result m c x hx),
      arg hb main_arg0 (by decide) (by decide), arg hb main_arg1 (by decide) (by decide), arg hb main_arg2 (by decide) (by decide),
      arg hb main_arg3 (by decide) (by decide), arg hb main_arg4 (by decide) (by decide)⟩
  · refine (θ_run Cert.ReferenceIdeal.defs _ _).mono (fun _ h c => ⟨(h c).1.trans ?_, (h c).2⟩)
      (Cert.ReferenceIdeal.Value.run (F := Ideal) m' ρ')
    obtain ⟨h0, h1, h2, h3, h4⟩ := hagree c
    refine (Cert.ReferenceIdeal.Value.res_main_v93_eq m' c).trans ?_
    rw [h0, h1, h2, h3, h4]

/-- Every claim. -/
theorem claim : Cert.Claim := ⟨Cert.Kernel.Gen.facts, Cert.KernelIdeal.Gen.facts, Cert.ReferenceIdeal.Gen.facts,
  frame_kernel, frame_ideal, frame_ref, trivial, algebraic⟩

end Cert.Proof

end
